-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S20 : Shape := ⟨1, ![20]⟩
abbrev S16 : Shape := ⟨1, ![16]⟩
abbrev S6 : Shape := ⟨1, ![6]⟩
abbrev S1024x1024 : Shape := ⟨2, ![1024, 1024]⟩
abbrev S3x3 : Shape := ⟨2, ![3, 3]⟩
abbrev S_ : Shape := ⟨0, ![]⟩
abbrev S1 : Shape := ⟨1, ![1]⟩
abbrev S512x1024 : Shape := ⟨2, ![512, 1024]⟩
abbrev S1x1 : Shape := ⟨2, ![1, 1]⟩

abbrev nBuf : Space → Nat
  | .hbm => 3
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 137 → Bool
  | ⟨i, _⟩ => dmaSemScopedAt i

abbrev sig : RefSig :=
  (ofTc nBuf bufTy 1 137 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch10 : Ref sig .tc := ⟨.vmem, 0, rfl⟩
abbrev cc0_scratch11 : Ref sig .tc := ⟨.vmem, 1, rfl⟩
abbrev cc0_scratch12 : Ref sig .tc := ⟨.vmem, 2, rfl⟩
abbrev cc0_scratch13 : Ref sig .tc := ⟨.vmem, 3, rfl⟩
abbrev cc0_scratch14 : Ref sig .tc := ⟨.vmem, 4, rfl⟩
abbrev cc0_scratch15 : Ref sig .tc := ⟨.vmem, 5, rfl⟩
abbrev cc0_scratch16 : Ref sig .tc := ⟨.vmem, 6, rfl⟩
abbrev cc0_scratch17 : Ref sig .tc := ⟨.vmem, 7, rfl⟩
abbrev cc0_scratch18 : Ref sig .tc := ⟨.vmem, 8, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v15 : BitVec 32 := Scalar.muli v9 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_32 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_20 : BitVec 32 := 2#32
  let v31 : BitVec 32 := Scalar.muli v2 c2_i32_20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32 : BitVec 32 := 8192#32
  let v33 : BitVec 32 := Scalar.muli v32 c8192_i32
  let v48 : BitVec 32 := Scalar.addi v33 c0_i32_32
  let c0_i32_238 : BitVec 32 := 0#32
  ![v48.toNat, 0]
def k0_dev4 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v263 : BitVec 32 := Scalar.muli v2 c4_i32_234
  let v264 : BitVec 32 := Scalar.addi c0_i32_235 v263
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_236 : BitVec 32 := 2#32
  let v265 : BitVec 32 := Scalar.muli v9 c2_i32_236
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v267 : BitVec 32 := Scalar.muli v8 c1_i32_237
  let v268 : BitVec 32 := Scalar.addi v266 v267
  v268.toNat
def k0_dev5 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v275 : BitVec 32 := Scalar.muli v2 c4_i32_242
  let v276 : BitVec 32 := Scalar.addi c0_i32_243 v275
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_244 : BitVec 32 := 2#32
  let v277 : BitVec 32 := Scalar.muli v9 c2_i32_244
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v279 : BitVec 32 := Scalar.muli v8 c1_i32_245
  let v280 : BitVec 32 := Scalar.addi v278 v279
  v280.toNat
def k0_dev6 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v287 : BitVec 32 := Scalar.muli v2 c4_i32_250
  let v288 : BitVec 32 := Scalar.addi c0_i32_251 v287
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_252 : BitVec 32 := 2#32
  let v289 : BitVec 32 := Scalar.muli v9 c2_i32_252
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v291 : BitVec 32 := Scalar.muli v8 c1_i32_253
  let v292 : BitVec 32 := Scalar.addi v290 v291
  v292.toNat
def k0_dev7 (d0 : Dev nD) : Nat :=
  let c0_i32_259 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_258 : BitVec 32 := 4#32
  let v299 : BitVec 32 := Scalar.muli v2 c4_i32_258
  let v300 : BitVec 32 := Scalar.addi c0_i32_259 v299
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_260 : BitVec 32 := 2#32
  let v301 : BitVec 32 := Scalar.muli v9 c2_i32_260
  let v302 : BitVec 32 := Scalar.addi v300 v301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_261 : BitVec 32 := 1#32
  let v303 : BitVec 32 := Scalar.muli v8 c1_i32_261
  let v304 : BitVec 32 := Scalar.addi v302 v303
  v304.toNat
def k0_dev8 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v311 : BitVec 32 := Scalar.muli v2 c4_i32_266
  let v312 : BitVec 32 := Scalar.addi c0_i32_267 v311
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_268 : BitVec 32 := 2#32
  let v313 : BitVec 32 := Scalar.muli v9 c2_i32_268
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v315 : BitVec 32 := Scalar.muli v8 c1_i32_269
  let v316 : BitVec 32 := Scalar.addi v314 v315
  v316.toNat
def k0_dev9 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v323 : BitVec 32 := Scalar.muli v2 c4_i32_273
  let v324 : BitVec 32 := Scalar.addi c0_i32_274 v323
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_275 : BitVec 32 := 2#32
  let v325 : BitVec 32 := Scalar.muli v9 c2_i32_275
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v327 : BitVec 32 := Scalar.muli v8 c1_i32_276
  let v328 : BitVec 32 := Scalar.addi v326 v327
  v328.toNat
def k0_dev10 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v335 : BitVec 32 := Scalar.muli v2 c4_i32_280
  let v336 : BitVec 32 := Scalar.addi c0_i32_281 v335
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_282 : BitVec 32 := 2#32
  let v337 : BitVec 32 := Scalar.muli v9 c2_i32_282
  let v338 : BitVec 32 := Scalar.addi v336 v337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v339 : BitVec 32 := Scalar.muli v8 c1_i32_283
  let v340 : BitVec 32 := Scalar.addi v338 v339
  v340.toNat
def k0_dev11 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v347 : BitVec 32 := Scalar.muli v2 c4_i32_287
  let v348 : BitVec 32 := Scalar.addi c0_i32_288 v347
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_289 : BitVec 32 := 2#32
  let v349 : BitVec 32 := Scalar.muli v9 c2_i32_289
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_290 : BitVec 32 := 1#32
  let v351 : BitVec 32 := Scalar.muli v8 c1_i32_290
  let v352 : BitVec 32 := Scalar.addi v350 v351
  v352.toNat
def k0_dev12 (d0 : Dev nD) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_294 : BitVec 32 := 4#32
  let v359 : BitVec 32 := Scalar.muli v2 c4_i32_294
  let v360 : BitVec 32 := Scalar.addi c0_i32_295 v359
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_296 : BitVec 32 := 2#32
  let v361 : BitVec 32 := Scalar.muli v9 c2_i32_296
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v363 : BitVec 32 := Scalar.muli v8 c1_i32_297
  let v364 : BitVec 32 := Scalar.addi v362 v363
  v364.toNat
def k0_dev13 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v371 : BitVec 32 := Scalar.muli v2 c4_i32_301
  let v372 : BitVec 32 := Scalar.addi c0_i32_302 v371
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_303 : BitVec 32 := 2#32
  let v373 : BitVec 32 := Scalar.muli v9 c2_i32_303
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v375 : BitVec 32 := Scalar.muli v8 c1_i32_304
  let v376 : BitVec 32 := Scalar.addi v374 v375
  v376.toNat
def k0_dev14 (d0 : Dev nD) : Nat :=
  let c0_i32_309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_308 : BitVec 32 := 4#32
  let v383 : BitVec 32 := Scalar.muli v2 c4_i32_308
  let v384 : BitVec 32 := Scalar.addi c0_i32_309 v383
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_310 : BitVec 32 := 2#32
  let v385 : BitVec 32 := Scalar.muli v9 c2_i32_310
  let v386 : BitVec 32 := Scalar.addi v384 v385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v387 : BitVec 32 := Scalar.muli v8 c1_i32_311
  let v388 : BitVec 32 := Scalar.addi v386 v387
  v388.toNat
def k0_dev15 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v395 : BitVec 32 := Scalar.muli v2 c4_i32_315
  let v396 : BitVec 32 := Scalar.addi c0_i32_316 v395
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_317 : BitVec 32 := 2#32
  let v397 : BitVec 32 := Scalar.muli v9 c2_i32_317
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v399 : BitVec 32 := Scalar.muli v8 c1_i32_318
  let v400 : BitVec 32 := Scalar.addi v398 v399
  v400.toNat
def k0_dev16 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v407 : BitVec 32 := Scalar.muli v2 c4_i32_322
  let v408 : BitVec 32 := Scalar.addi c0_i32_323 v407
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_324 : BitVec 32 := 2#32
  let v409 : BitVec 32 := Scalar.muli v9 c2_i32_324
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v411 : BitVec 32 := Scalar.muli v8 c1_i32_325
  let v412 : BitVec 32 := Scalar.addi v410 v411
  v412.toNat
def k0_dev17 (d0 : Dev nD) : Nat :=
  let c0_i32_330 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_329 : BitVec 32 := 4#32
  let v419 : BitVec 32 := Scalar.muli v2 c4_i32_329
  let v420 : BitVec 32 := Scalar.addi c0_i32_330 v419
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_331 : BitVec 32 := 2#32
  let v421 : BitVec 32 := Scalar.muli v9 c2_i32_331
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_332 : BitVec 32 := 1#32
  let v423 : BitVec 32 := Scalar.muli v8 c1_i32_332
  let v424 : BitVec 32 := Scalar.addi v422 v423
  v424.toNat
def k0_dev18 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v431 : BitVec 32 := Scalar.muli v2 c4_i32_336
  let v432 : BitVec 32 := Scalar.addi c0_i32_337 v431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_338 : BitVec 32 := 2#32
  let v433 : BitVec 32 := Scalar.muli v9 c2_i32_338
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v435 : BitVec 32 := Scalar.muli v8 c1_i32_339
  let v436 : BitVec 32 := Scalar.addi v434 v435
  v436.toNat
def k0_dev19 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v443 : BitVec 32 := Scalar.muli v2 c4_i32_343
  let v444 : BitVec 32 := Scalar.addi c0_i32_344 v443
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_345 : BitVec 32 := 2#32
  let v445 : BitVec 32 := Scalar.muli v9 c2_i32_345
  let v446 : BitVec 32 := Scalar.addi v444 v445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v447 : BitVec 32 := Scalar.muli v8 c1_i32_346
  let v448 : BitVec 32 := Scalar.addi v446 v447
  v448.toNat
def k0_off2 (d0 : Dev nD) (c0_i32_49 : BitVec 32) : Fin 2 → Nat :=
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_27 v2
  let c2_i32_28 : BitVec 32 := 2#32
  let v43 : BitVec 32 := Scalar.muli v42 c2_i32_28
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_29 v8
  let v45 : BitVec 32 := Scalar.addi v43 v44
  let c8192_i32_30 : BitVec 32 := 8192#32
  let v46 : BitVec 32 := Scalar.muli v45 c8192_i32_30
  let v80 : BitVec 32 := Scalar.addi v46 c0_i32_49
  let c0_i32_354 : BitVec 32 := 0#32
  ![v80.toNat, 0]
def k0_dev20 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v455 : BitVec 32 := Scalar.muli v2 c4_i32_350
  let v456 : BitVec 32 := Scalar.addi c0_i32_351 v455
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_352 : BitVec 32 := 2#32
  let v457 : BitVec 32 := Scalar.muli v9 c2_i32_352
  let v458 : BitVec 32 := Scalar.addi v456 v457
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v459 : BitVec 32 := Scalar.muli v8 c1_i32_353
  let v460 : BitVec 32 := Scalar.addi v458 v459
  v460.toNat
def k0_dev21 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v467 : BitVec 32 := Scalar.muli v2 c4_i32_357
  let v468 : BitVec 32 := Scalar.addi c0_i32_358 v467
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_359 : BitVec 32 := 2#32
  let v469 : BitVec 32 := Scalar.muli v9 c2_i32_359
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v471 : BitVec 32 := Scalar.muli v8 c1_i32_360
  let v472 : BitVec 32 := Scalar.addi v470 v471
  v472.toNat
def k0_dev22 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_364 : BitVec 32 := 4#32
  let v479 : BitVec 32 := Scalar.muli v2 c4_i32_364
  let v480 : BitVec 32 := Scalar.addi c0_i32_365 v479
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_366 : BitVec 32 := 2#32
  let v481 : BitVec 32 := Scalar.muli v9 c2_i32_366
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v483 : BitVec 32 := Scalar.muli v8 c1_i32_367
  let v484 : BitVec 32 := Scalar.addi v482 v483
  v484.toNat
def k0_dev23 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v491 : BitVec 32 := Scalar.muli v2 c4_i32_371
  let v492 : BitVec 32 := Scalar.addi c0_i32_372 v491
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_373 : BitVec 32 := 2#32
  let v493 : BitVec 32 := Scalar.muli v9 c2_i32_373
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_374 : BitVec 32 := 1#32
  let v495 : BitVec 32 := Scalar.muli v8 c1_i32_374
  let v496 : BitVec 32 := Scalar.addi v494 v495
  v496.toNat
def k0_dev24 (d0 : Dev nD) : Nat :=
  let c0_i32_388 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_387 : BitVec 32 := 4#32
  let v513 : BitVec 32 := Scalar.muli v10 c4_i32_387
  let v514 : BitVec 32 := Scalar.addi c0_i32_388 v513
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_389 : BitVec 32 := 2#32
  let v515 : BitVec 32 := Scalar.muli v5 c2_i32_389
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_390 : BitVec 32 := 1#32
  let v517 : BitVec 32 := Scalar.muli v8 c1_i32_390
  let v518 : BitVec 32 := Scalar.addi v516 v517
  v518.toNat
def k0_dev25 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v525 : BitVec 32 := Scalar.muli v2 c4_i32_395
  let v526 : BitVec 32 := Scalar.addi c0_i32_396 v525
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v527 : BitVec 32 := Scalar.muli v5 c2_i32_397
  let v528 : BitVec 32 := Scalar.addi v526 v527
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_398 : BitVec 32 := 1#32
  let v529 : BitVec 32 := Scalar.muli v11 c1_i32_398
  let v530 : BitVec 32 := Scalar.addi v528 v529
  v530.toNat
def k0_dev26 (d0 : Dev nD) : Nat :=
  let c0_i32_412 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_411 : BitVec 32 := 4#32
  let v547 : BitVec 32 := Scalar.muli v10 c4_i32_411
  let v548 : BitVec 32 := Scalar.addi c0_i32_412 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_413 : BitVec 32 := 2#32
  let v549 : BitVec 32 := Scalar.muli v5 c2_i32_413
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_414 : BitVec 32 := 1#32
  let v551 : BitVec 32 := Scalar.muli v8 c1_i32_414
  let v552 : BitVec 32 := Scalar.addi v550 v551
  v552.toNat
def k0_dev27 (d0 : Dev nD) : Nat :=
  let c0_i32_420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_419 : BitVec 32 := 4#32
  let v559 : BitVec 32 := Scalar.muli v2 c4_i32_419
  let v560 : BitVec 32 := Scalar.addi c0_i32_420 v559
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_421 : BitVec 32 := 2#32
  let v561 : BitVec 32 := Scalar.muli v5 c2_i32_421
  let v562 : BitVec 32 := Scalar.addi v560 v561
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_422 : BitVec 32 := 1#32
  let v563 : BitVec 32 := Scalar.muli v11 c1_i32_422
  let v564 : BitVec 32 := Scalar.addi v562 v563
  v564.toNat
def k0_off3 (d0 : Dev nD) (c0_i32_121 : BitVec 32) : Fin 2 → Nat :=
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_21 v2
  let c2_i32_22 : BitVec 32 := 2#32
  let v35 : BitVec 32 := Scalar.muli v34 c2_i32_22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v35 v8
  let c8192_i32_23 : BitVec 32 := 8192#32
  let v37 : BitVec 32 := Scalar.muli v36 c8192_i32_23
  let v152 : BitVec 32 := Scalar.addi v37 c0_i32_121
  let c0_i32_431 : BitVec 32 := 0#32
  ![v152.toNat, 0]
def k0_off4 (d0 : Dev nD) (c0_i32_153 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_24 : BitVec 32 := 2#32
  let v38 : BitVec 32 := Scalar.muli v2 c2_i32_24
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_25 v8
  let v40 : BitVec 32 := Scalar.addi v38 v39
  let c8192_i32_26 : BitVec 32 := 8192#32
  let v41 : BitVec 32 := Scalar.muli v40 c8192_i32_26
  let v184 : BitVec 32 := Scalar.addi v41 c0_i32_153
  let c0_i32_439 : BitVec 32 := 0#32
  ![v184.toNat, 0]
def k0_off5 (d0 : Dev nD) (c0_i32_441 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_20 : BitVec 32 := 2#32
  let v31 : BitVec 32 := Scalar.muli v2 c2_i32_20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c8192_i32 : BitVec 32 := 8192#32
  let v33 : BitVec 32 := Scalar.muli v32 c8192_i32
  let v591 : BitVec 32 := Scalar.addi v33 c0_i32_441
  let c0_i32_444 : BitVec 32 := 0#32
  ![v591.toNat, 0]
def k0_dev28 (d0 : Dev nD) : Nat :=
  let c0_i32_459 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_458 : BitVec 32 := 4#32
  let v608 : BitVec 32 := Scalar.muli v10 c4_i32_458
  let v609 : BitVec 32 := Scalar.addi c0_i32_459 v608
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v610 : BitVec 32 := Scalar.muli v5 c2_i32_460
  let v611 : BitVec 32 := Scalar.addi v609 v610
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_461 : BitVec 32 := 1#32
  let v612 : BitVec 32 := Scalar.muli v8 c1_i32_461
  let v613 : BitVec 32 := Scalar.addi v611 v612
  v613.toNat
def k0_dev29 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v620 : BitVec 32 := Scalar.muli v2 c4_i32_466
  let v621 : BitVec 32 := Scalar.addi c0_i32_467 v620
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v622 : BitVec 32 := Scalar.muli v5 c2_i32_468
  let v623 : BitVec 32 := Scalar.addi v621 v622
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_469 : BitVec 32 := 1#32
  let v624 : BitVec 32 := Scalar.muli v11 c1_i32_469
  let v625 : BitVec 32 := Scalar.addi v623 v624
  v625.toNat
def k0_dev30 (d0 : Dev nD) : Nat :=
  let c0_i32_499 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_498 : BitVec 32 := 4#32
  let v662 : BitVec 32 := Scalar.muli v10 c4_i32_498
  let v663 : BitVec 32 := Scalar.addi c0_i32_499 v662
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_500 : BitVec 32 := 2#32
  let v664 : BitVec 32 := Scalar.muli v5 c2_i32_500
  let v665 : BitVec 32 := Scalar.addi v663 v664
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_501 : BitVec 32 := 1#32
  let v666 : BitVec 32 := Scalar.muli v8 c1_i32_501
  let v667 : BitVec 32 := Scalar.addi v665 v666
  v667.toNat
def k0_dev31 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_506 : BitVec 32 := 4#32
  let v674 : BitVec 32 := Scalar.muli v2 c4_i32_506
  let v675 : BitVec 32 := Scalar.addi c0_i32_507 v674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_508 : BitVec 32 := 2#32
  let v676 : BitVec 32 := Scalar.muli v5 c2_i32_508
  let v677 : BitVec 32 := Scalar.addi v675 v676
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_509 : BitVec 32 := 1#32
  let v678 : BitVec 32 := Scalar.muli v11 c1_i32_509
  let v679 : BitVec 32 := Scalar.addi v677 v678
  v679.toNat
def k0_off6 (d0 : Dev nD) (c0_i32_535 : BitVec 32) : Fin 2 → Nat :=
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_21 v2
  let c2_i32_22 : BitVec 32 := 2#32
  let v35 : BitVec 32 := Scalar.muli v34 c2_i32_22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v35 v8
  let c8192_i32_23 : BitVec 32 := 8192#32
  let v37 : BitVec 32 := Scalar.muli v36 c8192_i32_23
  let v713 : BitVec 32 := Scalar.addi v37 c0_i32_535
  let c0_i32_538 : BitVec 32 := 0#32
  ![v713.toNat, 0]
def k0_off7 (d0 : Dev nD) (c0_i32_556 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_24 : BitVec 32 := 2#32
  let v38 : BitVec 32 := Scalar.muli v2 c2_i32_24
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_25 v8
  let v40 : BitVec 32 := Scalar.addi v38 v39
  let c8192_i32_26 : BitVec 32 := 8192#32
  let v41 : BitVec 32 := Scalar.muli v40 c8192_i32_26
  let v735 : BitVec 32 := Scalar.addi v41 c0_i32_556
  let c0_i32_559 : BitVec 32 := 0#32
  ![v735.toNat, 0]
def k0_dev32 (d0 : Dev nD) : Nat :=
  let c0_i32_574 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_573 : BitVec 32 := 4#32
  let v752 : BitVec 32 := Scalar.muli v10 c4_i32_573
  let v753 : BitVec 32 := Scalar.addi c0_i32_574 v752
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_575 : BitVec 32 := 2#32
  let v754 : BitVec 32 := Scalar.muli v5 c2_i32_575
  let v755 : BitVec 32 := Scalar.addi v753 v754
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_576 : BitVec 32 := 1#32
  let v756 : BitVec 32 := Scalar.muli v8 c1_i32_576
  let v757 : BitVec 32 := Scalar.addi v755 v756
  v757.toNat
def k0_dev33 (d0 : Dev nD) : Nat :=
  let c0_i32_582 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_581 : BitVec 32 := 4#32
  let v764 : BitVec 32 := Scalar.muli v2 c4_i32_581
  let v765 : BitVec 32 := Scalar.addi c0_i32_582 v764
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_583 : BitVec 32 := 2#32
  let v766 : BitVec 32 := Scalar.muli v5 c2_i32_583
  let v767 : BitVec 32 := Scalar.addi v765 v766
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_584 : BitVec 32 := 1#32
  let v768 : BitVec 32 := Scalar.muli v11 c1_i32_584
  let v769 : BitVec 32 := Scalar.addi v767 v768
  v769.toNat
def k0_dev34 (d0 : Dev nD) : Nat :=
  let c0_i32_614 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_613 : BitVec 32 := 4#32
  let v806 : BitVec 32 := Scalar.muli v10 c4_i32_613
  let v807 : BitVec 32 := Scalar.addi c0_i32_614 v806
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_615 : BitVec 32 := 2#32
  let v808 : BitVec 32 := Scalar.muli v5 c2_i32_615
  let v809 : BitVec 32 := Scalar.addi v807 v808
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_616 : BitVec 32 := 1#32
  let v810 : BitVec 32 := Scalar.muli v8 c1_i32_616
  let v811 : BitVec 32 := Scalar.addi v809 v810
  v811.toNat
def k0_dev35 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v818 : BitVec 32 := Scalar.muli v2 c4_i32_621
  let v819 : BitVec 32 := Scalar.addi c0_i32_622 v818
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_623 : BitVec 32 := 2#32
  let v820 : BitVec 32 := Scalar.muli v5 c2_i32_623
  let v821 : BitVec 32 := Scalar.addi v819 v820
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_624 : BitVec 32 := 1#32
  let v822 : BitVec 32 := Scalar.muli v11 c1_i32_624
  let v823 : BitVec 32 := Scalar.addi v821 v822
  v823.toNat
def k0_dev36 (d0 : Dev nD) : Nat :=
  let c0_i32_646 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_645 : BitVec 32 := 4#32
  let v850 : BitVec 32 := Scalar.muli v10 c4_i32_645
  let v851 : BitVec 32 := Scalar.addi c0_i32_646 v850
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_647 : BitVec 32 := 2#32
  let v852 : BitVec 32 := Scalar.muli v5 c2_i32_647
  let v853 : BitVec 32 := Scalar.addi v851 v852
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_648 : BitVec 32 := 1#32
  let v854 : BitVec 32 := Scalar.muli v8 c1_i32_648
  let v855 : BitVec 32 := Scalar.addi v853 v854
  v855.toNat
def k0_dev37 (d0 : Dev nD) : Nat :=
  let c0_i32_731 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_730 : BitVec 32 := 4#32
  let v941 : BitVec 32 := Scalar.muli v10 c4_i32_730
  let v942 : BitVec 32 := Scalar.addi c0_i32_731 v941
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_732 : BitVec 32 := 2#32
  let v943 : BitVec 32 := Scalar.muli v5 c2_i32_732
  let v944 : BitVec 32 := Scalar.addi v942 v943
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_733 : BitVec 32 := 1#32
  let v945 : BitVec 32 := Scalar.muli v8 c1_i32_733
  let v946 : BitVec 32 := Scalar.addi v944 v945
  v946.toNat
def k0_dev38 (d0 : Dev nD) : Nat :=
  let c0_i32_739 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_738 : BitVec 32 := 4#32
  let v953 : BitVec 32 := Scalar.muli v2 c4_i32_738
  let v954 : BitVec 32 := Scalar.addi c0_i32_739 v953
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_740 : BitVec 32 := 2#32
  let v955 : BitVec 32 := Scalar.muli v5 c2_i32_740
  let v956 : BitVec 32 := Scalar.addi v954 v955
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_741 : BitVec 32 := 1#32
  let v957 : BitVec 32 := Scalar.muli v11 c1_i32_741
  let v958 : BitVec 32 := Scalar.addi v956 v957
  v958.toNat
def k0_dev39 (d0 : Dev nD) : Nat :=
  let c0_i32_763 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_762 : BitVec 32 := 4#32
  let v985 : BitVec 32 := Scalar.muli v10 c4_i32_762
  let v986 : BitVec 32 := Scalar.addi c0_i32_763 v985
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_764 : BitVec 32 := 2#32
  let v987 : BitVec 32 := Scalar.muli v5 c2_i32_764
  let v988 : BitVec 32 := Scalar.addi v986 v987
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_765 : BitVec 32 := 1#32
  let v989 : BitVec 32 := Scalar.muli v8 c1_i32_765
  let v990 : BitVec 32 := Scalar.addi v988 v989
  v990.toNat
def k0_dev40 (d0 : Dev nD) : Nat :=
  let c0_i32_779 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_778 : BitVec 32 := 4#32
  let v1007 : BitVec 32 := Scalar.muli v10 c4_i32_778
  let v1008 : BitVec 32 := Scalar.addi c0_i32_779 v1007
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_780 : BitVec 32 := 2#32
  let v1009 : BitVec 32 := Scalar.muli v5 c2_i32_780
  let v1010 : BitVec 32 := Scalar.addi v1008 v1009
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_781 : BitVec 32 := 1#32
  let v1011 : BitVec 32 := Scalar.muli v8 c1_i32_781
  let v1012 : BitVec 32 := Scalar.addi v1010 v1011
  v1012.toNat
def k0_dev41 (d0 : Dev nD) : Nat :=
  let c0_i32_787 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_786 : BitVec 32 := 4#32
  let v1019 : BitVec 32 := Scalar.muli v2 c4_i32_786
  let v1020 : BitVec 32 := Scalar.addi c0_i32_787 v1019
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_788 : BitVec 32 := 2#32
  let v1021 : BitVec 32 := Scalar.muli v5 c2_i32_788
  let v1022 : BitVec 32 := Scalar.addi v1020 v1021
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_789 : BitVec 32 := 1#32
  let v1023 : BitVec 32 := Scalar.muli v11 c1_i32_789
  let v1024 : BitVec 32 := Scalar.addi v1022 v1023
  v1024.toNat
def k0_dev42 (d0 : Dev nD) : Nat :=
  let c0_i32_811 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_810 : BitVec 32 := 4#32
  let v1051 : BitVec 32 := Scalar.muli v10 c4_i32_810
  let v1052 : BitVec 32 := Scalar.addi c0_i32_811 v1051
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_812 : BitVec 32 := 2#32
  let v1053 : BitVec 32 := Scalar.muli v5 c2_i32_812
  let v1054 : BitVec 32 := Scalar.addi v1052 v1053
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_813 : BitVec 32 := 1#32
  let v1055 : BitVec 32 := Scalar.muli v8 c1_i32_813
  let v1056 : BitVec 32 := Scalar.addi v1054 v1055
  v1056.toNat
def k0_dev43 (d0 : Dev nD) : Nat :=
  let c0_i32_902 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_901 : BitVec 32 := 4#32
  let v1148 : BitVec 32 := Scalar.muli v10 c4_i32_901
  let v1149 : BitVec 32 := Scalar.addi c0_i32_902 v1148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_903 : BitVec 32 := 2#32
  let v1150 : BitVec 32 := Scalar.muli v5 c2_i32_903
  let v1151 : BitVec 32 := Scalar.addi v1149 v1150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_904 : BitVec 32 := 1#32
  let v1152 : BitVec 32 := Scalar.muli v8 c1_i32_904
  let v1153 : BitVec 32 := Scalar.addi v1151 v1152
  v1153.toNat
def k0_dev44 (d0 : Dev nD) : Nat :=
  let c0_i32_910 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_909 : BitVec 32 := 4#32
  let v1160 : BitVec 32 := Scalar.muli v2 c4_i32_909
  let v1161 : BitVec 32 := Scalar.addi c0_i32_910 v1160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_911 : BitVec 32 := 2#32
  let v1162 : BitVec 32 := Scalar.muli v5 c2_i32_911
  let v1163 : BitVec 32 := Scalar.addi v1161 v1162
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_912 : BitVec 32 := 1#32
  let v1164 : BitVec 32 := Scalar.muli v11 c1_i32_912
  let v1165 : BitVec 32 := Scalar.addi v1163 v1164
  v1165.toNat
def k0_dev45 (d0 : Dev nD) : Nat :=
  let c0_i32_934 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_933 : BitVec 32 := 4#32
  let v1192 : BitVec 32 := Scalar.muli v10 c4_i32_933
  let v1193 : BitVec 32 := Scalar.addi c0_i32_934 v1192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_935 : BitVec 32 := 2#32
  let v1194 : BitVec 32 := Scalar.muli v5 c2_i32_935
  let v1195 : BitVec 32 := Scalar.addi v1193 v1194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_936 : BitVec 32 := 1#32
  let v1196 : BitVec 32 := Scalar.muli v8 c1_i32_936
  let v1197 : BitVec 32 := Scalar.addi v1195 v1196
  v1197.toNat
def k0_dev46 (d0 : Dev nD) : Nat :=
  let c0_i32_950 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_949 : BitVec 32 := 4#32
  let v1214 : BitVec 32 := Scalar.muli v10 c4_i32_949
  let v1215 : BitVec 32 := Scalar.addi c0_i32_950 v1214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_951 : BitVec 32 := 2#32
  let v1216 : BitVec 32 := Scalar.muli v5 c2_i32_951
  let v1217 : BitVec 32 := Scalar.addi v1215 v1216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_952 : BitVec 32 := 1#32
  let v1218 : BitVec 32 := Scalar.muli v8 c1_i32_952
  let v1219 : BitVec 32 := Scalar.addi v1217 v1218
  v1219.toNat
def k0_dev47 (d0 : Dev nD) : Nat :=
  let c0_i32_958 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_957 : BitVec 32 := 4#32
  let v1226 : BitVec 32 := Scalar.muli v2 c4_i32_957
  let v1227 : BitVec 32 := Scalar.addi c0_i32_958 v1226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_959 : BitVec 32 := 2#32
  let v1228 : BitVec 32 := Scalar.muli v5 c2_i32_959
  let v1229 : BitVec 32 := Scalar.addi v1227 v1228
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_960 : BitVec 32 := 1#32
  let v1230 : BitVec 32 := Scalar.muli v11 c1_i32_960
  let v1231 : BitVec 32 := Scalar.addi v1229 v1230
  v1231.toNat
def k0_dev48 (d0 : Dev nD) : Nat :=
  let c0_i32_982 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_981 : BitVec 32 := 4#32
  let v1258 : BitVec 32 := Scalar.muli v10 c4_i32_981
  let v1259 : BitVec 32 := Scalar.addi c0_i32_982 v1258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_983 : BitVec 32 := 2#32
  let v1260 : BitVec 32 := Scalar.muli v5 c2_i32_983
  let v1261 : BitVec 32 := Scalar.addi v1259 v1260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_984 : BitVec 32 := 1#32
  let v1262 : BitVec 32 := Scalar.muli v8 c1_i32_984
  let v1263 : BitVec 32 := Scalar.addi v1261 v1262
  v1263.toNat
def k0_dev49 (d0 : Dev nD) : Nat :=
  let c0_i32_1073 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1072 : BitVec 32 := 4#32
  let v1355 : BitVec 32 := Scalar.muli v10 c4_i32_1072
  let v1356 : BitVec 32 := Scalar.addi c0_i32_1073 v1355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1074 : BitVec 32 := 2#32
  let v1357 : BitVec 32 := Scalar.muli v5 c2_i32_1074
  let v1358 : BitVec 32 := Scalar.addi v1356 v1357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1075 : BitVec 32 := 1#32
  let v1359 : BitVec 32 := Scalar.muli v8 c1_i32_1075
  let v1360 : BitVec 32 := Scalar.addi v1358 v1359
  v1360.toNat
def k0_dev50 (d0 : Dev nD) : Nat :=
  let c0_i32_1081 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1080 : BitVec 32 := 4#32
  let v1367 : BitVec 32 := Scalar.muli v2 c4_i32_1080
  let v1368 : BitVec 32 := Scalar.addi c0_i32_1081 v1367
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1082 : BitVec 32 := 2#32
  let v1369 : BitVec 32 := Scalar.muli v5 c2_i32_1082
  let v1370 : BitVec 32 := Scalar.addi v1368 v1369
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1083 : BitVec 32 := 1#32
  let v1371 : BitVec 32 := Scalar.muli v11 c1_i32_1083
  let v1372 : BitVec 32 := Scalar.addi v1370 v1371
  v1372.toNat
def k0_dev51 (d0 : Dev nD) : Nat :=
  let c0_i32_1105 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1104 : BitVec 32 := 4#32
  let v1399 : BitVec 32 := Scalar.muli v10 c4_i32_1104
  let v1400 : BitVec 32 := Scalar.addi c0_i32_1105 v1399
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1106 : BitVec 32 := 2#32
  let v1401 : BitVec 32 := Scalar.muli v5 c2_i32_1106
  let v1402 : BitVec 32 := Scalar.addi v1400 v1401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1107 : BitVec 32 := 1#32
  let v1403 : BitVec 32 := Scalar.muli v8 c1_i32_1107
  let v1404 : BitVec 32 := Scalar.addi v1402 v1403
  v1404.toNat
def k0_dev52 (d0 : Dev nD) : Nat :=
  let c0_i32_1121 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1120 : BitVec 32 := 4#32
  let v1421 : BitVec 32 := Scalar.muli v10 c4_i32_1120
  let v1422 : BitVec 32 := Scalar.addi c0_i32_1121 v1421
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1122 : BitVec 32 := 2#32
  let v1423 : BitVec 32 := Scalar.muli v5 c2_i32_1122
  let v1424 : BitVec 32 := Scalar.addi v1422 v1423
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1123 : BitVec 32 := 1#32
  let v1425 : BitVec 32 := Scalar.muli v8 c1_i32_1123
  let v1426 : BitVec 32 := Scalar.addi v1424 v1425
  v1426.toNat
def k0_dev53 (d0 : Dev nD) : Nat :=
  let c0_i32_1129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1128 : BitVec 32 := 4#32
  let v1433 : BitVec 32 := Scalar.muli v2 c4_i32_1128
  let v1434 : BitVec 32 := Scalar.addi c0_i32_1129 v1433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1130 : BitVec 32 := 2#32
  let v1435 : BitVec 32 := Scalar.muli v5 c2_i32_1130
  let v1436 : BitVec 32 := Scalar.addi v1434 v1435
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1131 : BitVec 32 := 1#32
  let v1437 : BitVec 32 := Scalar.muli v11 c1_i32_1131
  let v1438 : BitVec 32 := Scalar.addi v1436 v1437
  v1438.toNat
def k0_dev54 (d0 : Dev nD) : Nat :=
  let c0_i32_1145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1144 : BitVec 32 := 4#32
  let v1455 : BitVec 32 := Scalar.muli v2 c4_i32_1144
  let v1456 : BitVec 32 := Scalar.addi c0_i32_1145 v1455
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1146 : BitVec 32 := 2#32
  let v1457 : BitVec 32 := Scalar.muli v5 c2_i32_1146
  let v1458 : BitVec 32 := Scalar.addi v1456 v1457
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1147 : BitVec 32 := 1#32
  let v1459 : BitVec 32 := Scalar.muli v11 c1_i32_1147
  let v1460 : BitVec 32 := Scalar.addi v1458 v1459
  v1460.toNat
def k0_dev55 (d0 : Dev nD) : Nat :=
  let c0_i32_1244 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1243 : BitVec 32 := 4#32
  let v1562 : BitVec 32 := Scalar.muli v10 c4_i32_1243
  let v1563 : BitVec 32 := Scalar.addi c0_i32_1244 v1562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1245 : BitVec 32 := 2#32
  let v1564 : BitVec 32 := Scalar.muli v5 c2_i32_1245
  let v1565 : BitVec 32 := Scalar.addi v1563 v1564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1246 : BitVec 32 := 1#32
  let v1566 : BitVec 32 := Scalar.muli v8 c1_i32_1246
  let v1567 : BitVec 32 := Scalar.addi v1565 v1566
  v1567.toNat
def k0_dev56 (d0 : Dev nD) : Nat :=
  let c0_i32_1252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1251 : BitVec 32 := 4#32
  let v1574 : BitVec 32 := Scalar.muli v2 c4_i32_1251
  let v1575 : BitVec 32 := Scalar.addi c0_i32_1252 v1574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1253 : BitVec 32 := 2#32
  let v1576 : BitVec 32 := Scalar.muli v5 c2_i32_1253
  let v1577 : BitVec 32 := Scalar.addi v1575 v1576
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1254 : BitVec 32 := 1#32
  let v1578 : BitVec 32 := Scalar.muli v11 c1_i32_1254
  let v1579 : BitVec 32 := Scalar.addi v1577 v1578
  v1579.toNat
def k0_dev57 (d0 : Dev nD) : Nat :=
  let c0_i32_1268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1267 : BitVec 32 := 4#32
  let v1596 : BitVec 32 := Scalar.muli v2 c4_i32_1267
  let v1597 : BitVec 32 := Scalar.addi c0_i32_1268 v1596
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1269 : BitVec 32 := 2#32
  let v1598 : BitVec 32 := Scalar.muli v5 c2_i32_1269
  let v1599 : BitVec 32 := Scalar.addi v1597 v1598
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1270 : BitVec 32 := 1#32
  let v1600 : BitVec 32 := Scalar.muli v11 c1_i32_1270
  let v1601 : BitVec 32 := Scalar.addi v1599 v1600
  v1601.toNat
def k0_dev58 (d0 : Dev nD) : Nat :=
  let c0_i32_1292 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1291 : BitVec 32 := 4#32
  let v1628 : BitVec 32 := Scalar.muli v10 c4_i32_1291
  let v1629 : BitVec 32 := Scalar.addi c0_i32_1292 v1628
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1293 : BitVec 32 := 2#32
  let v1630 : BitVec 32 := Scalar.muli v5 c2_i32_1293
  let v1631 : BitVec 32 := Scalar.addi v1629 v1630
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1294 : BitVec 32 := 1#32
  let v1632 : BitVec 32 := Scalar.muli v8 c1_i32_1294
  let v1633 : BitVec 32 := Scalar.addi v1631 v1632
  v1633.toNat
def k0_dev59 (d0 : Dev nD) : Nat :=
  let c0_i32_1300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1299 : BitVec 32 := 4#32
  let v1640 : BitVec 32 := Scalar.muli v2 c4_i32_1299
  let v1641 : BitVec 32 := Scalar.addi c0_i32_1300 v1640
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1301 : BitVec 32 := 2#32
  let v1642 : BitVec 32 := Scalar.muli v5 c2_i32_1301
  let v1643 : BitVec 32 := Scalar.addi v1641 v1642
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1302 : BitVec 32 := 1#32
  let v1644 : BitVec 32 := Scalar.muli v11 c1_i32_1302
  let v1645 : BitVec 32 := Scalar.addi v1643 v1644
  v1645.toNat
def k0_dev60 (d0 : Dev nD) : Nat :=
  let c0_i32_1316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1315 : BitVec 32 := 4#32
  let v1662 : BitVec 32 := Scalar.muli v2 c4_i32_1315
  let v1663 : BitVec 32 := Scalar.addi c0_i32_1316 v1662
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1317 : BitVec 32 := 2#32
  let v1664 : BitVec 32 := Scalar.muli v5 c2_i32_1317
  let v1665 : BitVec 32 := Scalar.addi v1663 v1664
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1318 : BitVec 32 := 1#32
  let v1666 : BitVec 32 := Scalar.muli v11 c1_i32_1318
  let v1667 : BitVec 32 := Scalar.addi v1665 v1666
  v1667.toNat
def k0_dev61 (d0 : Dev nD) : Nat :=
  let c0_i32_1415 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1414 : BitVec 32 := 4#32
  let v1769 : BitVec 32 := Scalar.muli v10 c4_i32_1414
  let v1770 : BitVec 32 := Scalar.addi c0_i32_1415 v1769
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1416 : BitVec 32 := 2#32
  let v1771 : BitVec 32 := Scalar.muli v5 c2_i32_1416
  let v1772 : BitVec 32 := Scalar.addi v1770 v1771
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1417 : BitVec 32 := 1#32
  let v1773 : BitVec 32 := Scalar.muli v8 c1_i32_1417
  let v1774 : BitVec 32 := Scalar.addi v1772 v1773
  v1774.toNat
def k0_dev62 (d0 : Dev nD) : Nat :=
  let c0_i32_1423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1422 : BitVec 32 := 4#32
  let v1781 : BitVec 32 := Scalar.muli v2 c4_i32_1422
  let v1782 : BitVec 32 := Scalar.addi c0_i32_1423 v1781
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1424 : BitVec 32 := 2#32
  let v1783 : BitVec 32 := Scalar.muli v5 c2_i32_1424
  let v1784 : BitVec 32 := Scalar.addi v1782 v1783
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1425 : BitVec 32 := 1#32
  let v1785 : BitVec 32 := Scalar.muli v11 c1_i32_1425
  let v1786 : BitVec 32 := Scalar.addi v1784 v1785
  v1786.toNat
def k0_dev63 (d0 : Dev nD) : Nat :=
  let c0_i32_1439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1438 : BitVec 32 := 4#32
  let v1803 : BitVec 32 := Scalar.muli v2 c4_i32_1438
  let v1804 : BitVec 32 := Scalar.addi c0_i32_1439 v1803
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1440 : BitVec 32 := 2#32
  let v1805 : BitVec 32 := Scalar.muli v5 c2_i32_1440
  let v1806 : BitVec 32 := Scalar.addi v1804 v1805
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1441 : BitVec 32 := 1#32
  let v1807 : BitVec 32 := Scalar.muli v11 c1_i32_1441
  let v1808 : BitVec 32 := Scalar.addi v1806 v1807
  v1808.toNat
def k0_dev64 (d0 : Dev nD) : Nat :=
  let c0_i32_1463 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1462 : BitVec 32 := 4#32
  let v1835 : BitVec 32 := Scalar.muli v10 c4_i32_1462
  let v1836 : BitVec 32 := Scalar.addi c0_i32_1463 v1835
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1464 : BitVec 32 := 2#32
  let v1837 : BitVec 32 := Scalar.muli v5 c2_i32_1464
  let v1838 : BitVec 32 := Scalar.addi v1836 v1837
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1465 : BitVec 32 := 1#32
  let v1839 : BitVec 32 := Scalar.muli v8 c1_i32_1465
  let v1840 : BitVec 32 := Scalar.addi v1838 v1839
  v1840.toNat
def k0_dev65 (d0 : Dev nD) : Nat :=
  let c0_i32_1471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1470 : BitVec 32 := 4#32
  let v1847 : BitVec 32 := Scalar.muli v2 c4_i32_1470
  let v1848 : BitVec 32 := Scalar.addi c0_i32_1471 v1847
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1472 : BitVec 32 := 2#32
  let v1849 : BitVec 32 := Scalar.muli v5 c2_i32_1472
  let v1850 : BitVec 32 := Scalar.addi v1848 v1849
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1473 : BitVec 32 := 1#32
  let v1851 : BitVec 32 := Scalar.muli v11 c1_i32_1473
  let v1852 : BitVec 32 := Scalar.addi v1850 v1851
  v1852.toNat
def k0_dev66 (d0 : Dev nD) : Nat :=
  let c0_i32_1487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1486 : BitVec 32 := 4#32
  let v1869 : BitVec 32 := Scalar.muli v2 c4_i32_1486
  let v1870 : BitVec 32 := Scalar.addi c0_i32_1487 v1869
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1488 : BitVec 32 := 2#32
  let v1871 : BitVec 32 := Scalar.muli v5 c2_i32_1488
  let v1872 : BitVec 32 := Scalar.addi v1870 v1871
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1489 : BitVec 32 := 1#32
  let v1873 : BitVec 32 := Scalar.muli v11 c1_i32_1489
  let v1874 : BitVec 32 := Scalar.addi v1872 v1873
  v1874.toNat
def k0_dev67 (d0 : Dev nD) : Nat :=
  let c0_i32_1586 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1585 : BitVec 32 := 4#32
  let v1976 : BitVec 32 := Scalar.muli v2 c4_i32_1585
  let v1977 : BitVec 32 := Scalar.addi c0_i32_1586 v1976
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1587 : BitVec 32 := 2#32
  let v1978 : BitVec 32 := Scalar.muli v5 c2_i32_1587
  let v1979 : BitVec 32 := Scalar.addi v1977 v1978
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1588 : BitVec 32 := 1#32
  let v1980 : BitVec 32 := Scalar.muli v11 c1_i32_1588
  let v1981 : BitVec 32 := Scalar.addi v1979 v1980
  v1981.toNat
def k0_off8 (d0 : Dev nD) (c0_i32_1699 : BitVec 32) : Fin 2 → Nat :=
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_27 v2
  let c2_i32_28 : BitVec 32 := 2#32
  let v43 : BitVec 32 := Scalar.muli v42 c2_i32_28
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_29 v8
  let v45 : BitVec 32 := Scalar.addi v43 v44
  let c8192_i32_30 : BitVec 32 := 8192#32
  let v46 : BitVec 32 := Scalar.muli v45 c8192_i32_30
  let v2106 : BitVec 32 := Scalar.addi v46 c0_i32_1699
  let c0_i32_1702 : BitVec 32 := 0#32
  ![v2106.toNat, 0]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Ops.lean ====
/- The kernel's body as a list of steps. The body is a straight line of 517 memory operations; nearly all of
   them belong to a few families (remote copies of 512 rows, local copies of 1024 rows, one addition of two
   tiles). This module names the families, spells each step's operation, lists the steps in program order,
   and proves that the printed body is the run of that list. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

set_option maxRecDepth 65536

noncomputable section

namespace Cert.KernelIdeal.Run

open Idealize.ShloMosaic Idealize.ShloMosaic.TcCoe
open Idealize.SL Idealize.SL.Sem
open Cert.KernelIdeal.Gen

variable {F : FTy → Type} [FloatOps F]

/-- The three neighbours of a device, one along each axis of the 2×2×2 mesh. -/
inductive Nbr | x | y | z
  deriving DecidableEq

/-- The four quarters of the 32768 rows, named from a device's own place `(x, z)`: its own quarter, its
    x-neighbour's, its z-neighbour's, and the one opposite on both axes. -/
inductive Quarter | me | x | z | diag
  deriving DecidableEq

/-- The remote copies a device starts, by the loop they stand in: the direct ones along y (own quarter and
    first four chunks of the opposite quarter), the forwards along x and z of the own quarter, and the
    second-hop forwards along x and z that fill the rest of the opposite quarter. -/
inductive Xfer
  | y (k : Fin 16) | yd (k : Fin 4) | xd (k : Fin 16) | zd (k : Fin 16) | xg (j : Fin 6) | zg (j : Fin 6)
  deriving DecidableEq

/-- The steps of the body. -/
inductive Op
  /-- one unit to a neighbour's barrier -/
  | sgnl (n : Nbr)
  /-- the wait for three units on the own barrier -/
  | bar
  /-- start a remote copy -/
  | send (t : Xfer)
  /-- wait for the arrival of the copy of this name -/
  | waitR (t : Xfer)
  /-- wait for the departure of the own copy of this name -/
  | waitS (t : Xfer)
  /-- start loading a tile of `x` into set `s` -/
  | ldx (s : Fin 3) (q : Quarter) (k : Fin 8)
  /-- start loading a tile of the received rows into set `s` -/
  | ldr (s : Fin 3) (q : Quarter) (k : Fin 8)
  /-- wait for the tile of `x` -/
  | wldx (s : Fin 3) (q : Quarter) (k : Fin 8)
  /-- wait for the tile of received rows -/
  | wldr (s : Fin 3) (q : Quarter) (k : Fin 8)
  /-- add the two tiles of set `s` -/
  | comp (s : Fin 3) (q : Quarter) (k : Fin 8)
  /-- start storing the sum's tile -/
  | st (s : Fin 3) (q : Quarter) (k : Fin 8)
  /-- wait for the store -/
  | wst (s : Fin 3) (q : Quarter) (k : Fin 8)
  deriving DecidableEq

/-- The barrier semaphore. -/
abbrev barS : Sem sig := sig.barrier 0 rfl

/-- The device a name of a neighbour points to. -/
def nbr (n : Nbr) (d : Dev nD) : Dev nD :=
  match n with
  | .y => ⟨k0_dev1 d, k0_dev1_lt d⟩
  | .x => ⟨k0_dev2 d, k0_dev2_lt d⟩
  | .z => ⟨k0_dev3 d, k0_dev3_lt d⟩

/-- Where chunk `k` (512 rows) of a quarter starts. -/
def off (q : Quarter) (d : Dev nD) (k : Fin 16) : Fin 2 → Nat :=
  match q with
  | .me => k0_off1 d (BitVec.ofNat 32 (512 * k.val))
  | .diag => k0_off2 d (BitVec.ofNat 32 (512 * k.val))
  | .x => k0_off3 d (BitVec.ofNat 32 (512 * k.val))
  | .z => k0_off4 d (BitVec.ofNat 32 (512 * k.val))

theorem off_inb (q : Quarter) (d : Dev nD) (k : Fin 16) (a : Fin 2) :
    off q d k a + S512x1024.size a ≤ S32768x1024.size a :=
  match q with
  | .me => k0_off1_inb d k a
  | .diag => k0_off2_inb d k a
  | .x => k0_off3_inb d k a
  | .z => k0_off4_inb d k a

/-- Where tile `k` (1024 rows) of a quarter starts. -/
def offB (q : Quarter) (d : Dev nD) (k : Fin 8) : Fin 2 → Nat :=
  match q with
  | .me => k0_off5 d (BitVec.ofNat 32 (1024 * k.val))
  | .x => k0_off6 d (BitVec.ofNat 32 (1024 * k.val))
  | .z => k0_off7 d (BitVec.ofNat 32 (1024 * k.val))
  | .diag => k0_off8 d (BitVec.ofNat 32 (1024 * k.val))

theorem offB_inb (q : Quarter) (d : Dev nD) (k : Fin 8) (a : Fin 2) :
    offB q d k a + S1024x1024.size a ≤ S32768x1024.size a :=
  match q with
  | .me => k0_off5_inb d k a
  | .x => k0_off6_inb d k a
  | .z => k0_off7_inb d k a
  | .diag => k0_off8_inb d k a

abbrev xA : Memref sig .tc .hbm S32768x1024 .f32 := Memref.whole main_arg0
abbrev oA : Memref sig .tc .hbm S32768x1024 .f32 := Memref.whole main_v1_0
abbrev rA : Memref sig .tc .hbm S32768x1024 .f32 := Memref.whole main_v1_1

/-- A chunk's rows of an array. -/
abbrev rows (A : Memref sig .tc .hbm S32768x1024 .f32) (q : Quarter) (d : Dev nD) (k : Fin 16) :
    Memref sig .tc .hbm S512x1024 .f32 :=
  A.slice (Rect.unit (s := S32768x1024) (off q d k) S512x1024.size (off_inb q d k)) (fun _ => rfl)

/-- A tile's rows of an array. -/
abbrev rowsB (A : Memref sig .tc .hbm S32768x1024 .f32) (q : Quarter) (d : Dev nD) (k : Fin 8) :
    Memref sig .tc .hbm S1024x1024 .f32 :=
  A.slice (Rect.unit (s := S32768x1024) (offB q d k) S1024x1024.size (offB_inb q d k)) (fun _ => rfl)

/-- The buffers of set `s`: the tile of `x`, the tile of received rows, the tile of the sum. -/
def bufX (s : Fin 3) : Ref sig .tc := match s with | 0 => cc0_scratch10 | 1 => cc0_scratch13 | 2 => cc0_scratch16
def bufR (s : Fin 3) : Ref sig .tc := match s with | 0 => cc0_scratch11 | 1 => cc0_scratch14 | 2 => cc0_scratch17
def bufO (s : Fin 3) : Ref sig .tc := match s with | 0 => cc0_scratch12 | 1 => cc0_scratch15 | 2 => cc0_scratch18

def vX (s : Fin 3) : Memref sig .tc .vmem S1024x1024 .f32 :=
  match s with | 0 => Memref.whole cc0_scratch10 | 1 => Memref.whole cc0_scratch13 | 2 => Memref.whole cc0_scratch16
def vR (s : Fin 3) : Memref sig .tc .vmem S1024x1024 .f32 :=
  match s with | 0 => Memref.whole cc0_scratch11 | 1 => Memref.whole cc0_scratch14 | 2 => Memref.whole cc0_scratch17
def vO (s : Fin 3) : Memref sig .tc .vmem S1024x1024 .f32 :=
  match s with | 0 => Memref.whole cc0_scratch12 | 1 => Memref.whole cc0_scratch15 | 2 => Memref.whole cc0_scratch18

theorem vX_whole (s : Fin 3) : (vX s).IsWhole :=
  match s with | 0 => Memref.isWhole_whole _ | 1 => Memref.isWhole_whole _ | 2 => Memref.isWhole_whole _
theorem vR_whole (s : Fin 3) : (vR s).IsWhole :=
  match s with | 0 => Memref.isWhole_whole _ | 1 => Memref.isWhole_whole _ | 2 => Memref.isWhole_whole _
theorem vO_whole (s : Fin 3) : (vO s).IsWhole :=
  match s with | 0 => Memref.isWhole_whole _ | 1 => Memref.isWhole_whole _ | 2 => Memref.isWhole_whole _

/-- The direction a remote copy takes. -/
def Xfer.nbr : Xfer → Nbr
  | .y _ => .y | .yd _ => .y | .xd _ => .x | .zd _ => .z | .xg _ => .x | .zg _ => .z

/-- The semaphore of a copy's departure and of its arrival. -/
def Xfer.semS : Xfer → DmaSem sig
  | .y k => ⟨k.val, by have := k.isLt; show k.val < 137; omega⟩
  | .yd k => ⟨16 + k.val, by have := k.isLt; show _ < 137; omega⟩
  | .xd k => ⟨40 + k.val, by have := k.isLt; show _ < 137; omega⟩
  | .zd k => ⟨72 + k.val, by have := k.isLt; show _ < 137; omega⟩
  | .xg k => ⟨104 + k.val, by have := k.isLt; show _ < 137; omega⟩
  | .zg k => ⟨116 + k.val, by have := k.isLt; show _ < 137; omega⟩
def Xfer.semR : Xfer → DmaSem sig
  | .y k => ⟨20 + k.val, by have := k.isLt; show _ < 137; omega⟩
  | .yd k => ⟨36 + k.val, by have := k.isLt; show _ < 137; omega⟩
  | .xd k => ⟨56 + k.val, by have := k.isLt; show _ < 137; omega⟩
  | .zd k => ⟨88 + k.val, by have := k.isLt; show _ < 137; omega⟩
  | .xg k => ⟨110 + k.val, by have := k.isLt; show _ < 137; omega⟩
  | .zg k => ⟨122 + k.val, by have := k.isLt; show _ < 137; omega⟩

/-- The semaphores of the local copies of set `s`. -/
def semL (s : Fin 3) (i : Fin 3) : DmaSem sig := ⟨128 + (3 * s.val + i.val), by have := s.isLt; have := i.isLt; show _ < 137; omega⟩

/-- The quarter a copy's rows lie in, from the sender's place and from the receiver's. -/
def Xfer.srcQ : Xfer → Quarter
  | .y _ => .me | .yd _ => .diag | .xd _ => .me | .zd _ => .me | .xg _ => .z | .zg _ => .x
def Xfer.dstQ : Xfer → Quarter
  | .y _ => .me | .yd _ => .diag | .xd _ => .x | .zd _ => .z | .xg _ => .diag | .zg _ => .diag
/-- The chunk of that quarter. -/
def Xfer.chunk : Xfer → Fin 16
  | .y k => k | .yd k => ⟨k.val, by have := k.isLt; omega⟩ | .xd k => k | .zd k => k
  | .xg j => ⟨4 + j.val, by have := j.isLt; omega⟩ | .zg j => ⟨10 + j.val, by have := j.isLt; omega⟩

/-- The array a copy reads: the input for the direct copies, the received rows for a forward. -/
abbrev Xfer.srcA : Xfer → Memref sig .tc .hbm S32768x1024 .f32
  | .y _ => xA | .yd _ => xA | _ => rA

abbrev full : Rect S1024x1024 := Rect.unit (s := S1024x1024) ![0, 0] S1024x1024.size inb_S1024x1024_S1024x1024_0_0

/-- The sum of two tiles. -/
abbrev pay (v w : Vec F S1024x1024 .f32) : FVec F S1024x1024 .f32 := k0_pay1 v w

/-- What a step does. -/
def Op.run (d : Dev nD) : Op → Prog (TpuEff nD τ sig (Elt F) Λ₀ .tc) PUnit
  | .sgnl n => semSignalWord (nbr n d) barS 1#32
  | .bar => semWaitWord barS 3#32
  | .send t => Prog.lift (.enqueueDma (rows t.srcA t.srcQ d t.chunk)
      (.remote (Dev.tc (nbr t.nbr d)) (rows rA t.srcQ d t.chunk) (.dma t.semS)) (.dma t.semR)
      (View.wordExact_bits rfl) (View.wordExact_bits rfl) ⟨⟨rfl, Or.inl rfl⟩, trivial⟩)
  | .waitR t => Prog.lift (.waitDma2 t.semR
      (rows t.srcA t.dstQ d t.chunk) (rows rA t.dstQ d t.chunk) (View.wordExact_bits rfl) (View.wordExact_bits rfl))
  | .waitS t => Prog.lift (.waitDma2 t.semS
      (rows rA t.srcQ d t.chunk) (rows t.srcA t.srcQ d t.chunk) (View.wordExact_bits rfl) (View.wordExact_bits rfl))
  | .ldx s q k => Prog.lift (.enqueueDma (rowsB xA q d k) (.here (vX s)) (.dma (semL s 0))
      (View.wordExact_bits rfl) (vX_whole s).wordExact ⟨Or.inl rfl, trivial⟩)
  | .ldr s q k => Prog.lift (.enqueueDma (rowsB rA q d k) (.here (vR s)) (.dma (semL s 1))
      (View.wordExact_bits rfl) (vR_whole s).wordExact ⟨Or.inl rfl, trivial⟩)
  | .wldx s q k => Prog.lift (.waitDma2 (semL s 0) (rowsB xA q d k) (vX s)
      (View.wordExact_bits rfl) (vX_whole s).wordExact)
  | .wldr s q k => Prog.lift (.waitDma2 (semL s 1) (rowsB rA q d k) (vR s)
      (View.wordExact_bits rfl) (vR_whole s).wordExact)
  | .comp s q k => do
      let v : Vec F S1024x1024 .f32 ← Prog.lift (.load (vX s) full.toLoadRect (View.loadsAt_vmem h_S1024x1024))
      let w : Vec F S1024x1024 .f32 ← Prog.lift (.load (vR s) full.toLoadRect (View.loadsAt_vmem h_S1024x1024))
      let u : Vec F S1024x1024 .f32 ← Prog.lift (.load (vO s) full.toLoadRect (View.loadsAt_vmem h_S1024x1024))
      Prog.lift (.store (vO s) full (pay v w) Finset.univ (View.stores_vmem_bits_univ h_S1024x1024 rfl) (.inl rfl))
  | .st s q k => Prog.lift (.enqueueDma (vO s) (.here (rowsB oA q d k)) (.dma (semL s 2))
      (vO_whole s).wordExact (View.wordExact_bits rfl) ⟨Or.inl rfl, trivial⟩)
  | .wst s q k => Prog.lift (.waitDma2 (semL s 2) (vO s) (rowsB oA q d k)
      (vO_whole s).wordExact (View.wordExact_bits rfl))

/-! ## The list -/

/-- One tile's turn in set `s`: finish the tile `p` that was there (if any), then start loading tile `n`. -/
abbrev finish (s : Fin 3) (q : Quarter) (k : Fin 8) : List Op :=
  [.wldx s q k, .wldr s q k, .comp s q k, .st s q k]
abbrev begin_ (s : Fin 3) (q : Quarter) (k : Fin 8) : List Op := [.ldx s q k, .ldr s q k]

/-- The tiles in the order they are taken up, tile number `n` in set `n % 3`. -/
def tiles : List (Quarter × Fin 8) :=
  [(.me, 0), (.me, 1), (.x, 0), (.z, 0), (.me, 2), (.x, 1), (.z, 1), (.me, 3), (.x, 2), (.z, 2), (.me, 4), (.x, 3),
   (.z, 3), (.me, 5), (.x, 4), (.z, 4), (.me, 6), (.x, 5), (.z, 5), (.me, 7), (.x, 6), (.z, 6), (.x, 7), (.z, 7),
   (.diag, 0), (.diag, 1), (.diag, 2), (.diag, 3), (.diag, 4), (.diag, 5), (.diag, 6), (.diag, 7)]

def tile (n : Nat) : Quarter × Fin 8 := tiles.getD n (.me, 0)
def setOf (n : Nat) : Fin 3 := ⟨n % 3, Nat.mod_lt _ (by decide)⟩

/-- Finish tile number `n`: wait for the store that used its set three tiles before, wait for its loads, add,
    and start storing. -/
def fin_ (n : Nat) : List Op :=
  (if 3 ≤ n then [.wst (setOf n) (tile (n - 3)).1 (tile (n - 3)).2] else []) ++ finish (setOf n) (tile n).1 (tile n).2

/-- Take up tile number `n`: with three tiles under way, the oldest is finished first. -/
def proc (n : Nat) : List Op :=
  (if 3 ≤ n then fin_ (n - 3) else []) ++ begin_ (setOf n) (tile n).1 (tile n).2

def f16 (n : Nat) : Fin 16 := ⟨n % 16, Nat.mod_lt _ (by decide)⟩
def f6 (n : Nat) : Fin 6 := ⟨n % 6, Nat.mod_lt _ (by decide)⟩
def f4 (n : Nat) : Fin 4 := ⟨n % 4, Nat.mod_lt _ (by decide)⟩

/-- What follows the arrival of the forwards of chunk `k`. -/
def hop (k : Nat) : List Op :=
  [.waitR (.xd (f16 k))] ++ (if 10 ≤ k then [.send (.zg (f6 (k - 10)))] else []) ++
  [.waitR (.zd (f16 k))] ++ (if 4 ≤ k ∧ k < 10 then [.send (.xg (f6 (k - 4)))] else [])

/-- Iteration `k` of the main loop. -/
def iter (k : Nat) : List Op :=
  [.waitR (.y (f16 k)), .send (.xd (f16 k)), .send (.zd (f16 k))] ++ (if 1 ≤ k then hop (k - 1) else []) ++
  (if k = 1 then proc 0 else if k % 2 = 1 then proc (3 * (k / 2) - 2) ++ proc (3 * (k / 2) - 1) ++ proc (3 * (k / 2)) else [])

def allOps : List Op :=
  [.sgnl .y, .sgnl .x, .sgnl .z, .bar] ++
  (List.range 16).map (fun k => .send (.y (f16 k))) ++ (List.range 4).map (fun k => .send (.yd (f4 k))) ++
  (List.range 16).flatMap iter ++ hop 15 ++ proc 22 ++ proc 23 ++
  (List.range 4).map (fun k => .waitR (.yd (f4 k))) ++ proc 24 ++ proc 25 ++
  (List.range 3).flatMap (fun i => [.waitR (.xg (f6 (2 * i))), .waitR (.xg (f6 (2 * i + 1)))] ++ proc (26 + i)) ++
  (List.range 3).flatMap (fun i => [.waitR (.zg (f6 (2 * i))), .waitR (.zg (f6 (2 * i + 1)))] ++ proc (29 + i)) ++
  fin_ 29 ++ fin_ 30 ++ fin_ 31 ++
  [30, 31, 29].map (fun n => .wst (setOf n) (tile n).1 (tile n).2) ++
  (List.range 16).map (fun k => .waitS (.y (f16 k))) ++ (List.range 4).map (fun k => .waitS (.yd (f4 k))) ++
  (List.range 16).flatMap (fun k => [.waitS (.xd (f16 k)), .waitS (.zd (f16 k))]) ++
  (List.range 6).map (fun j => .waitS (.xg (f6 j))) ++ (List.range 6).map (fun j => .waitS (.zg (f6 j)))

/-- Run a list of steps, then return. -/
def runOps (d : Dev nD) : List Op → Prog (TpuEff nD τ sig (Elt F) Λ₀ .tc) PUnit
  | [] => pure ⟨⟩
  | o :: os => o.run d >>= fun _ => runOps d os

/-- The printed body is the run of the list. -/
theorem body_eq (t : Fin cfg0.N) :
    bodyAt0 (F := F) t = (Prog.lift .deviceId >>= fun d => runOps d allOps) := by
  chain_rfl

end Cert.KernelIdeal.Run

end
-- ==== Proof.Ideal.Geom.lean ====
/- Which rows the kernel's copies touch, and whose data they carry. The 32768 rows of an array are cut into 64
   chunks of 512 rows (the remote copies) and into 32 tiles of 1024 rows (the local copies); this module numbers
   the chunk or tile a step names, relates the sender's numbering to the receiver's, and says which device's
   input a chunk of received rows comes from. -/
module

public import proofs.«01_k».proof.Proof.Ideal.Ops
public import Idealize.ShloMosaic.Lib.Pipeline.Kit

@[expose] public section

set_option maxRecDepth 16384

noncomputable section

namespace Cert.KernelIdeal.Run

open Idealize.ShloMosaic Idealize.ShloMosaic.TcCoe
open Idealize.SL Idealize.SL.Sem
open Cert.KernelIdeal.Gen

variable {F : FTy → Type} [FloatOps F]

/-! ## The names are finitely many -/

instance : Fintype Nbr := ⟨{.y, .x, .z}, fun n => by cases n <;> decide⟩
instance : Fintype Quarter := ⟨{.me, .x, .z, .diag}, fun n => by cases n <;> decide⟩

/-- Every copy, listed. -/
def allX : List Xfer :=
  (List.finRange 16).map .y ++ (List.finRange 4).map .yd ++ (List.finRange 16).map .xd ++ (List.finRange 16).map .zd ++
  (List.finRange 6).map .xg ++ (List.finRange 6).map .zg

/-- The list has every transfer. -/
theorem mem_allX (t : Xfer) : t ∈ allX := by
  unfold allX
  cases t <;> simp [List.mem_finRange]

instance : Fintype Xfer := ⟨allX.toFinset, fun t => List.mem_toFinset.mpr (mem_allX t)⟩

/-- The transfers are the list of them. -/
theorem univ_X : (Finset.univ : Finset Xfer) = allX.toFinset := rfl
/-- No transfer is listed twice. -/
theorem nodup_X : allX.Nodup := by decide +kernel

/-- The copies that go to one neighbour. -/
def xferTo (n : Nbr) : List Xfer := allX.filter (fun t => t.nbr = n)

/-- A copy that goes to a neighbour goes to that one. -/
theorem mem_xferTo {n : Nbr} {t : Xfer} (h : t ∈ xferTo n) : t.nbr = n := by
  have := (List.mem_filter.mp h).2; simpa using this

/-! ## The mesh -/

/-- A neighbour's neighbour on the same side is the device itself. -/
theorem nbr_nbr (n : Nbr) (c : Dev nD) : nbr n (nbr n c) = c := by revert n c; decide +kernel

/-- Going to a neighbour and coming back. -/
def nbrEquiv (n : Nbr) : Dev nD ≃ Dev nD := ⟨nbr n, nbr n, nbr_nbr n, nbr_nbr n⟩

/-- The number of a device's quarter among the four. -/
def qidx (q : Quarter) (c : Dev nD) : ℕ :=
  match q with
  | .me => 2 * (c.val / 4) + c.val % 2
  | .x => 2 * (1 - c.val / 4) + c.val % 2
  | .z => 2 * (c.val / 4) + (1 - c.val % 2)
  | .diag => 2 * (1 - c.val / 4) + (1 - c.val % 2)

/-- The number of a chunk among the 64, of a tile among the 32. -/
def cidx (q : Quarter) (c : Dev nD) (k : Fin 16) : ℕ := 16 * qidx q c + k.val
def bidx (q : Quarter) (c : Dev nD) (k : Fin 8) : ℕ := 8 * qidx q c + k.val

/-- There are 64 chunks. -/
theorem cidx_lt (q : Quarter) (c : Dev nD) (k : Fin 16) : cidx q c k < 64 := by revert q c k; decide +kernel
/-- There are 32 tiles. -/
theorem bidx_lt (q : Quarter) (c : Dev nD) (k : Fin 8) : bidx q c k < 32 := by revert q c k; decide +kernel

/-- The first row of a chunk. -/
theorem off_zero (q : Quarter) (c : Dev nD) (k : Fin 16) : off q c k 0 = 512 * cidx q c k := by
  revert q c k; decide +kernel
/-- A chunk starts at the first column. -/
theorem off_one (q : Quarter) (c : Dev nD) (k : Fin 16) : off q c k 1 = 0 := by
  revert q c k; decide +kernel
/-- The first row of a tile. -/
theorem offB_zero (q : Quarter) (c : Dev nD) (k : Fin 8) : offB q c k 0 = 1024 * bidx q c k := by
  revert q c k; decide +kernel
/-- A tile starts at the first column. -/
theorem offB_one (q : Quarter) (c : Dev nD) (k : Fin 8) : offB q c k 1 = 0 := by
  revert q c k; decide +kernel

/-- The sender's and the receiver's name of a copy's chunk are the same rows. -/
theorem cidx_dst (t : Xfer) (c : Dev nD) : cidx t.dstQ (nbr t.nbr c) t.chunk = cidx t.srcQ c t.chunk := by
  revert t c; decide +kernel

/-- The same from the receiver's side. -/
theorem cidx_src (t : Xfer) (c : Dev nD) : cidx t.srcQ (nbr t.nbr c) t.chunk = cidx t.dstQ c t.chunk := by
  rw [← cidx_dst, nbr_nbr]

/-- Sender and receiver name the same place. -/
theorem off_dst (t : Xfer) (c : Dev nD) : off t.srcQ c t.chunk = off t.dstQ (nbr t.nbr c) t.chunk := by
  funext a
  fin_cases a
  · exact (off_zero _ _ _).trans ((congrArg (512 * ·) (cidx_dst t c)).symm.trans (off_zero _ _ _).symm)
  · exact (off_one _ _ _).trans (off_one _ _ _).symm

/-! ## Rows -/

/-- Positions of an array. -/
abbrev Pos : Type := S32768x1024.Idx
def row (i : Pos) : ℕ := (i 0).val
theorem row_lt (i : Pos) : row i < 32768 := (i 0).isLt

/-- The positions of chunk `j`, of tile `b`. -/
def chunkSet (j : ℕ) : Finset Pos := Finset.univ.filter fun i => row i / 512 = j
def tileSet (b : ℕ) : Finset Pos := Finset.univ.filter fun i => row i / 1024 = b

theorem mem_chunkSet {j : ℕ} {i : Pos} : i ∈ chunkSet j ↔ row i / 512 = j := by
  unfold chunkSet; rw [Finset.mem_filter]; exact and_iff_right (Finset.mem_univ _)
theorem mem_tileSet {b : ℕ} {i : Pos} : i ∈ tileSet b ↔ row i / 1024 = b := by
  unfold tileSet; rw [Finset.mem_filter]; exact and_iff_right (Finset.mem_univ _)

/-- Two chunks share no position. -/
theorem chunk_disjoint {j j' : ℕ} (h : j ≠ j') : Disjoint (chunkSet j) (chunkSet j') :=
  Finset.disjoint_left.mpr fun i hi hi' => h ((mem_chunkSet.mp hi).symm.trans (mem_chunkSet.mp hi'))
/-- Two tiles share no position. -/
theorem tile_disjoint {j j' : ℕ} (h : j ≠ j') : Disjoint (tileSet j) (tileSet j') :=
  Finset.disjoint_left.mpr fun i hi hi' => h ((mem_tileSet.mp hi).symm.trans (mem_tileSet.mp hi'))

/-- A tile is two chunks. -/
theorem tile_eq (b : ℕ) : tileSet b = chunkSet (2 * b) ∪ chunkSet (2 * b + 1) := by
  ext i; rw [Finset.mem_union, mem_tileSet, mem_chunkSet, mem_chunkSet]; omega

/-- A tile's first chunk. -/
def lo (k : Fin 8) : Fin 16 := ⟨2 * k.val, by omega⟩
/-- A tile's second chunk. -/
def hi (k : Fin 8) : Fin 16 := ⟨2 * k.val + 1, by omega⟩
theorem cidx_lo (q : Quarter) (c : Dev nD) (k : Fin 8) : cidx q c (lo k) = 2 * bidx q c k := by
  unfold cidx bidx lo; dsimp only; omega
theorem cidx_hi (q : Quarter) (c : Dev nD) (k : Fin 8) : cidx q c (hi k) = 2 * bidx q c k + 1 := by
  unfold cidx bidx hi; dsimp only; omega

/-- The rows of a copy are a chunk. -/
theorem chunk_rect (q : Quarter) (c : Dev nD) (k : Fin 16) :
    (Rect.unit (s := S32768x1024) (off q c k) S512x1024.size (off_inb q c k)).set = chunkSet (cidx q c k) := by
  ext i
  rw [Rect.mem_set_unit, mem_chunkSet]
  have h1 : (i 1).val < 1024 := (i 1).isLt
  constructor
  · intro h
    obtain ⟨h0, h0'⟩ := h 0
    rw [off_zero] at h0 h0'
    replace h0' : row i < 512 * cidx q c k + 512 := h0'
    replace h0 : 512 * cidx q c k ≤ row i := h0
    omega
  · intro h a
    fin_cases a
    · show off q c k 0 ≤ row i ∧ row i < off q c k 0 + 512
      rw [off_zero]; omega
    · show off q c k 1 ≤ (i 1).val ∧ (i 1).val < off q c k 1 + 1024
      rw [off_one]; omega

/-- The rows of a local copy are a tile. -/
theorem tile_rect (q : Quarter) (c : Dev nD) (k : Fin 8) :
    (Rect.unit (s := S32768x1024) (offB q c k) S1024x1024.size (offB_inb q c k)).set = tileSet (bidx q c k) := by
  ext i
  rw [Rect.mem_set_unit, mem_tileSet]
  have h1 : (i 1).val < 1024 := (i 1).isLt
  constructor
  · intro h
    obtain ⟨h0, h0'⟩ := h 0
    rw [offB_zero] at h0 h0'
    replace h0' : row i < 1024 * bidx q c k + 1024 := h0'
    replace h0 : 1024 * bidx q c k ≤ row i := h0
    omega
  · intro h a
    fin_cases a
    · show offB q c k 0 ≤ row i ∧ row i < offB q c k 0 + 1024
      rw [offB_zero]; omega
    · show offB q c k 1 ≤ (i 1).val ∧ (i 1).val < offB q c k 1 + 1024
      rw [offB_one]; omega

theorem set_xA (q : Quarter) (c : Dev nD) (k : Fin 16) : (rows xA q c k).view.set = (chunkSet (cidx q c k) : Finset Pos) :=
  (View.set_slice_whole main_arg0 _).trans (chunk_rect q c k)
theorem set_rA (q : Quarter) (c : Dev nD) (k : Fin 16) : (rows rA q c k).view.set = (chunkSet (cidx q c k) : Finset Pos) :=
  (View.set_slice_whole main_v1_1 _).trans (chunk_rect q c k)
theorem setB_xA (q : Quarter) (c : Dev nD) (k : Fin 8) : (rowsB xA q c k).view.set = (tileSet (bidx q c k) : Finset Pos) :=
  (View.set_slice_whole main_arg0 _).trans (tile_rect q c k)
theorem setB_rA (q : Quarter) (c : Dev nD) (k : Fin 8) : (rowsB rA q c k).view.set = (tileSet (bidx q c k) : Finset Pos) :=
  (View.set_slice_whole main_v1_1 _).trans (tile_rect q c k)
theorem setB_oA (q : Quarter) (c : Dev nD) (k : Fin 8) : (rowsB oA q c k).view.set = (tileSet (bidx q c k) : Finset Pos) :=
  (View.set_slice_whole main_v1_0 _).trans (tile_rect q c k)

/-! ## Every row is in one chunk and one tile -/

/-- The chunk a copy fills at the device it arrives at. -/
abbrev inIdx (c : Dev nD) (t : Xfer) : ℕ := cidx t.dstQ c t.chunk

/-- Different arrivals fill different chunks. -/
theorem in_inj (c : Dev nD) (t t' : Xfer) (h : inIdx c t = inIdx c t') : t = t' := by
  revert c t t'; decide +kernel
/-- Every chunk arrives. -/
theorem in_cover (c : Dev nD) (j : Fin 64) : ∃ t, inIdx c t = j.val := by
  revert c j; decide +kernel
/-- A quarter and a number name one chunk. -/
theorem cidx_inj (c : Dev nD) (q q' : Quarter) (k k' : Fin 16) (h : cidx q c k = cidx q' c k') : q = q' ∧ k = k' := by
  revert c q q' k k'; decide +kernel
/-- A quarter and a number name one tile. -/
theorem bidx_inj (c : Dev nD) (q q' : Quarter) (k k' : Fin 8) (h : bidx q c k = bidx q' c k') : q = q' ∧ k = k' := by
  revert c q q' k k'; decide +kernel
/-- Every tile has a name. -/
theorem bidx_cover (c : Dev nD) (b : Fin 32) : ∃ q k, bidx q c k = b.val := by
  revert c b; decide +kernel

/-- The arrivals fill the landing array. -/
theorem in_univ (c : Dev nD) : (Finset.univ : Finset Xfer).biUnion (fun t => chunkSet (inIdx c t)) = Finset.univ := by
  ext i
  simp only [Finset.mem_biUnion, Finset.mem_univ, true_and, iff_true, mem_chunkSet]
  obtain ⟨t, ht⟩ := in_cover c ⟨row i / 512, by have := row_lt i; omega⟩
  exact ⟨t, ht.symm⟩

/-- The tiles fill the array. -/
theorem tile_univ (c : Dev nD) :
    (Finset.univ : Finset (Quarter × Fin 8)).biUnion (fun p => tileSet (bidx p.1 c p.2)) = Finset.univ := by
  ext i
  simp only [Finset.mem_biUnion, Finset.mem_univ, true_and, iff_true, mem_tileSet]
  obtain ⟨q, k, h⟩ := bidx_cover c ⟨row i / 1024, by have := row_lt i; omega⟩
  exact ⟨(q, k), h.symm⟩

/-! ## Whose rows arrive -/

/-- The device across the y axis in the column where chunk `j` is a device's own quarter — except for the
    first four chunks of the opposite quarter, which come from the y-neighbour itself. -/
def origin (c : Dev nD) (j : ℕ) : Dev nD :=
  if j / 16 = qidx .diag c ∧ j % 16 < 4 then nbr .y c
  else ⟨(4 * (j / 32) + 2 * (1 - c.val / 2 % 2) + j / 16 % 2) % 8, Nat.mod_lt _ (by decide)⟩

/-- A copy is direct when it carries the sender's own input. -/
def Xfer.direct : Xfer → Bool | .y _ => true | .yd _ => true | _ => false

/-- A direct transfer brings rows of its sender. -/
theorem origin_direct (t : Xfer) (h : t.direct = true) (c : Dev nD) : origin (nbr t.nbr c) (cidx t.srcQ c t.chunk) = c := by
  revert t c; decide +kernel
/-- A forwarded chunk keeps the device it comes from. -/
theorem origin_fwd (t : Xfer) (h : t.direct = false) (c : Dev nD) :
    origin (nbr t.nbr c) (cidx t.srcQ c t.chunk) = origin c (cidx t.srcQ c t.chunk) := by
  revert t c; decide +kernel
/-- Every chunk comes from a device of the other half. -/
theorem origin_y (c : Dev nD) (j : Fin 64) : (origin c j.val).val / 2 % 2 = 1 - c.val / 2 % 2 := by
  revert c j; decide +kernel

variable (m : (ℓ : Loc nD τ sig) → Buf (Elt F) ℓ)

/-- The input of device `c`; the rows it receives in the end; its result. -/
def xs (c : Dev nD) : Pos → Elt F .f32 := m ((c : Thread nD τ).loc main_arg0)
def rin (c : Dev nD) : Pos → Elt F .f32 := fun i => xs m (origin c (row i / 512)) i
def res (c : Dev nD) : Pos → Elt F .f32 := addf (F := F) (s := S32768x1024) (φ := .f32) (xs m c) (rin m c)

/-- What a copy carries, from the sender's side, is what the receiver ends with. -/
def carried (t : Xfer) (c : Dev nD) : Pos → Elt F .f32 := if t.direct then xs m c else rin m c

/-- What a transfer carries is what its receiver ends with in those rows. -/
theorem carried_eq (t : Xfer) (c : Dev nD) (i : Pos) (hi : i ∈ chunkSet (cidx t.srcQ c t.chunk)) :
    carried m t c i = rin m (nbr t.nbr c) i := by
  unfold carried
  have h := mem_chunkSet.mp hi
  cases hd : t.direct
  · rw [if_neg (by simp)]
    unfold rin
    rw [h, origin_fwd t hd]
  · rw [if_pos rfl]
    unfold rin
    rw [h, origin_direct t hd]

end Cert.KernelIdeal.Run

end
-- ==== Proof.Ideal.Sched.lean ====
/- The protocol of the kernel's shared semaphores: every device's barrier semaphore and the 128 semaphores of its
   remote copies. Each is used for one round. A device's barrier receives one unit from each neighbour, and the
   unit from neighbour `n` carries the rows of `n`'s landing array that the device's copies to `n` will fill.
   A copy's arrival hands over the rows filled, its departure nothing. The waits are ordered by levels. -/
module

public import proofs.«01_k».proof.Proof.Ideal.Geom
public import Idealize.ShloMosaic.Lib.Pipeline.Launch
public import Idealize.ShloMosaic.Lib.Pipeline.Kit
public import Idealize.ShloMosaic.Lib.Pipeline.BigSepL
public import Idealize.ShloMosaic.Lib.Ring.Trips
public import Idealize.ShloMosaic.Lib.Transfers
public import Idealize.ShloMosaic.Lib.Tactic

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the launch's, the protocol's, the local copies' counters -/

abbrev UB : Type := URounds (GSem nD τ sig) Nbr
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## Cells -/

abbrev barCell (c : Dev nD) : GSem nD τ sig := ((c : Thread nD τ), .reg barS)
abbrev sndCell (c : Dev nD) (t : Xfer) : GSem nD τ sig := ((c : Thread nD τ), .dma t.semS)
abbrev rcvCell (c : Dev nD) (t : Xfer) : GSem nD τ sig := ((c : Thread nD τ), .dma t.semR)
abbrev locCell (c : Dev nD) (s i : Fin 3) : GSem nD τ sig := ((c : Thread nD τ), .dma (semL s i))

/-- What one copy moves, in the units its semaphores count. -/
def N : ℕ := (rows rA .me (0 : Dev nD) 0).view.dmaCredit
theorem N_pos : 0 < N := View.dmaCredit_pos _ (by decide)
theorem N_rows (q : Quarter) (c : Dev nD) (k : Fin 16) : (rows rA q c k).view.dmaCredit = N := rfl
theorem amount_rows (q : Quarter) (c : Dev nD) (k : Fin 16) (s : DmaSem sig) : (rows rA q c k).view.amount (.dma s) = N := N_rows q c k
theorem N_rowsx (t : Xfer) (q : Quarter) (c : Dev nD) (k : Fin 16) : (rows t.srcA q c k).view.dmaCredit = N := by
  cases t <;> rfl

/-- The copy whose arrivals a semaphore counts. -/
def arrives (s : DmaSem sig) : Option Xfer := allX.find? fun t => t.semR = s
theorem arrives_semR (t : Xfer) : arrives t.semR = some t := by revert t; decide +kernel
theorem arrives_semS (t : Xfer) : arrives t.semS = none := by revert t; decide +kernel
theorem semS_lt (t : Xfer) : t.semS.val < 128 := by revert t; decide +kernel
theorem semR_lt (t : Xfer) : t.semR.val < 128 := by revert t; decide +kernel

/-! ## Points-to of the three arrays -/

/-- Positions `S` of device `c`'s input, of its landing array, of its result. -/
def xPt (c : Dev nD) (S : Finset Pos) (q : PosShare TreeShare) (f : Pos → Elt F .f32) : sProp 𝕄 :=
  ((c : Thread nD τ).loc main_arg0) ↦[S]{q} f
def rPt (c : Dev nD) (S : Finset Pos) (q : PosShare TreeShare) (f : Pos → Elt F .f32) : sProp 𝕄 :=
  ((c : Thread nD τ).loc main_v1_1) ↦[S]{q} f
def oPt (c : Dev nD) (S : Finset Pos) (q : PosShare TreeShare) (f : Pos → Elt F .f32) : sProp 𝕄 :=
  ((c : Thread nD τ).loc main_v1_0) ↦[S]{q} f

instance rPt_storable (c : Dev nD) (S : Finset Pos) (q : PosShare TreeShare) (f : Pos → Elt F .f32) :
    BI.Storable (upEmb : UEmb _ 𝕄) (rPt (F := F) c S q f) := by unfold rPt; infer_instance

variable (m : (ℓ : Loc nD τ sig) → Buf (Elt F) ℓ)

/-- The rows at the other end that the copy `t` of device `c` fills, at any contents. -/
def rx (c : Dev nD) (t : Xfer) : sProp 𝕄 :=
  iprop(∃ f : Pos → Elt F .f32, rPt (nbr t.nbr c) (chunkSet (cidx t.srcQ c t.chunk)) fullShare f)
/-- What neighbour `n`'s unit on `c`'s barrier carries. -/
def barPay (c : Dev nD) (n : Nbr) : sProp 𝕄 := bigSepL (xferTo n) (rx c)
/-- What the arrival of `t` at `c` carries. -/
def rcvPay (c : Dev nD) (t : Xfer) : sProp 𝕄 := rPt c (chunkSet (inIdx c t)) fullShare (rin m c)

instance rx_storable (c : Dev nD) (t : Xfer) : BI.Storable (upEmb : UEmb _ 𝕄) (rx (F := F) c t) := by unfold rx; infer_instance
omit [FloatOps F] in
theorem bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) iprop(emp))
  | cons a l ih => rw [bigSepL_cons']; infer_instance
instance barPay_storable (c : Dev nD) (n : Nbr) : BI.Storable (upEmb : UEmb _ 𝕄) (barPay (F := F) c n) := bigSepL_storable _ _
instance rcvPay_storable (c : Dev nD) (t : Xfer) : BI.Storable (upEmb : UEmb _ 𝕄) (rcvPay (F := F) m c t) := by
  unfold rcvPay; infer_instance

/-! ## The schedule -/

def dutiesAt : SemLoc sig → Finset Nbr
  | .reg s => if s = barS then Finset.univ else ∅
  | .dma s => if s.val < 128 then {.y} else ∅
def amountAt : SemLoc sig → ℕ
  | .reg _ => 1
  | .dma _ => N
def payAt (c : Dev nD) (n : Nbr) : SemLoc sig → sProp 𝕄
  | .reg _ => barPay c n
  | .dma s => match arrives s with | some t => rcvPay m c t | none => iprop(emp)

def Rd : Rounds.Schedule (GSem nD τ sig) Nbr 𝕄 where
  duties g r := if r = 0 ∧ g.1.2 = .tc then dutiesAt g.2 else ∅
  unitless _ := False
  amount g _ _ := amountAt g.2
  payload g _ d := payAt m g.1.1 d g.2
  amount_pos g _ _ _ := by
    cases h : g.2
    · exact Nat.one_pos
    · exact N_pos

instance Rd_storable (g : GSem nD τ sig) (r : ℕ) (d : Nbr) : BI.Storable (upEmb : UEmb _ 𝕄) ((Rd (F := F) m).payload g r d) := by
  show BI.Storable upEmb (payAt m g.1.1 d g.2)
  cases h : g.2 with
  | reg s => exact barPay_storable _ _
  | dma s =>
    show BI.Storable upEmb (match arrives s with | some t => rcvPay m g.1.1 t | none => iprop(emp))
    cases arrives s with
    | none => infer_instance
    | some t => exact rcvPay_storable _ _ _

section
variable (c : Dev nD) (t : Xfer)

theorem duties_eq (sm : SemLoc sig) : (Rd (F := F) m).duties ((c : Thread nD τ), sm) 0 = dutiesAt sm := by
  unfold Rd; dsimp only; rw [if_pos]; exact ⟨rfl, rfl⟩
theorem duties_bar : (Rd (F := F) m).duties (barCell c) 0 = Finset.univ :=
  by rw [duties_eq]; unfold dutiesAt; dsimp only; rw [if_pos]; try exact rfl
theorem duties_snd : (Rd (F := F) m).duties (sndCell c t) 0 = {.y} :=
  by rw [duties_eq]; unfold dutiesAt; dsimp only; rw [if_pos]; try exact (semS_lt t)
theorem duties_rcv : (Rd (F := F) m).duties (rcvCell c t) 0 = {.y} :=
  by rw [duties_eq]; unfold dutiesAt; dsimp only; rw [if_pos]; try exact (semR_lt t)
theorem duties_later (g : GSem nD τ sig) : ∀ r, 1 ≤ r → (Rd (F := F) m).duties g r = ∅ :=
  fun r hr => if_neg fun h => by omega

theorem expect_bar : (Rd (F := F) m).expect (barCell c) 0 = 3 := by
  unfold Schedule.expect Schedule.amountOf
  rw [duties_bar, Finset.sum_congr rfl fun d _ => show (Rd (F := F) m).amount (barCell c) 0 d = 1 from rfl]; decide
theorem expect_snd : (Rd (F := F) m).expect (sndCell c t) 0 = N := by
  unfold Schedule.expect Schedule.amountOf; rw [duties_snd, Finset.sum_singleton]; rfl
theorem expect_rcv : (Rd (F := F) m).expect (rcvCell c t) 0 = N := by
  unfold Schedule.expect Schedule.amountOf; rw [duties_rcv, Finset.sum_singleton]; rfl

theorem payload_snd (d : Nbr) : (Rd (F := F) m).payload (sndCell c t) 0 d = iprop(emp) := by
  show (match arrives t.semS with | some t => rcvPay m c t | none => iprop(emp)) = _; rw [arrives_semS]
theorem payload_rcv (d : Nbr) : (Rd (F := F) m).payload (rcvCell c t) 0 d = rcvPay m c t := by
  show (match arrives t.semR with | some t => rcvPay m c t | none => iprop(emp)) = _; rw [arrives_semR]

theorem payload_bar (d : Nbr) : (Rd (F := F) m).payload (barCell c) 0 d = barPay c d := by unfold Rd; rfl
theorem amount_bar (d : Nbr) : (Rd (F := F) m).amount (barCell c) 0 d = (1#32 : BitVec 32).toNat := by unfold Rd; rfl
theorem amount_snd (d : Nbr) : (Rd (F := F) m).amount (sndCell c t) 0 d = N := by unfold Rd; rfl
theorem amount_rcv (d : Nbr) : (Rd (F := F) m).amount (rcvCell c t) 0 d = N := by unfold Rd; rfl

theorem rest_bar : bigSep ((Rd (F := F) m).duties (barCell c) 0 \ ∅) (fun d => (Rd (F := F) m).payload (barCell c) 0 d)
    = iprop(barPay c .y ∗ barPay c .x ∗ barPay c .z) := by
  rw [Finset.sdiff_empty, duties_bar, bigSep_univ_eq_bigSepL [.y, .x, .z] (by decide) (by decide), bigSepL_cons_cons,
    bigSepL_cons_cons, bigSepL_singleton]
  rfl
theorem rest_rcv : bigSep ((Rd (F := F) m).duties (rcvCell c t) 0 \ ∅) (fun d => (Rd (F := F) m).payload (rcvCell c t) 0 d)
    = rcvPay m c t := by
  rw [Finset.sdiff_empty, duties_rcv, bigSep_singleton, payload_rcv]
end

/-! ## What is owed, and the levels -/

/-- A payment a device makes: a unit to a neighbour's barrier, or a copy's arrival. -/
abbrev Pay : Type := Nbr ⊕ Xfer
def payTally (c : Dev nD) : Pay → CellTallies nD τ sig Unit
  | .inl n => tallyAt (barCell (nbr n c)) () 1
  | .inr t => tallyAt (rcvCell (nbr t.nbr c) t) () N
def Op.pays : Op → Option Pay
  | .sgnl n => some (.inl n)
  | .send t => some (.inr t)
  | _ => none
def owedL (c : Dev nD) (l : List Pay) : CellTallies nD τ sig Unit := (l.map (payTally c)).sum
def owed (c : Dev nD) (l : List Op) : CellTallies nD τ sig Unit := owedL c (l.filterMap Op.pays)

/-- The level of a semaphore: nothing to wait for above level 0 but the barrier, then the direct copies, then
    the forwards in the order of their chunks, then the second-hop forwards. -/
def lvSem : SemLoc sig → ℕ
  | .reg _ => 1
  | .dma s =>
    if 20 ≤ s.val ∧ s.val < 40 then 2
    else if 56 ≤ s.val ∧ s.val < 72 then 10 + (s.val - 56)
    else if 88 ≤ s.val ∧ s.val < 104 then 10 + (s.val - 88)
    else if 110 ≤ s.val ∧ s.val < 116 then 30
    else if 122 ≤ s.val ∧ s.val < 128 then 30
    else 0
def lvPay : Pay → ℕ
  | .inl _ => 1
  | .inr t => lvSem (.dma t.semR)

def L (g : GSem nD τ sig) : Finset Unit := if g.1.2 = .tc then {()} else ∅
def lv (g : GSem nD τ sig) (_ : Unit) : ℕ := lvSem g.2
theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {g : GSem nD τ sig} {u : Unit} : ∀ {l : List Pay}, 0 < owedL c l g u →
    ∃ p ∈ l, g.1.2 = .tc ∧ lv g u = lvPay p
  | [], h => absurd h (Nat.lt_irrefl 0)
  | p :: l, h => by
    rw [show owedL c (p :: l) = payTally c p + owedL c l by unfold owedL; rw [List.map_cons, List.sum_cons],
      Pi.add_apply, Finsupp.add_apply] at h
    rcases Nat.eq_zero_or_pos (owedL c l g u) with h0 | h1
    · rw [h0, Nat.add_zero] at h
      refine ⟨p, List.mem_cons_self, ?_⟩
      cases p with
      | inl n =>
        rw [show payTally c (.inl n) = tallyAt (barCell (nbr n c)) () 1 from rfl, tallyAt_apply] at h
        by_cases e : g = barCell (nbr n c) ∧ u = ()
        · rw [e.1]; exact ⟨rfl, rfl⟩
        · rw [if_neg e] at h; exact absurd h (Nat.lt_irrefl 0)
      | inr t =>
        rw [show payTally c (.inr t) = tallyAt (rcvCell (nbr t.nbr c) t) () N from rfl, tallyAt_apply] at h
        by_cases e : g = rcvCell (nbr t.nbr c) t ∧ u = ()
        · rw [e.1]; exact ⟨rfl, rfl⟩
        · rw [if_neg e] at h; exact absurd h (Nat.lt_irrefl 0)
    · obtain ⟨p', hp', e⟩ := owedL_pos h1
      exact ⟨p', List.mem_cons_of_mem _ hp', e⟩

/-- A wait on a semaphore below everything still owed is allowed. -/
theorem mayWait (c : Dev nD) (sm : SemLoc sig) (l : List Pay) (h : ∀ p ∈ l, lvSem sm < lvPay p) :
    (levAts L lv : sProp 𝕄) ⊢ MayWait (c : Thread nD τ) sm () (owedL c l) :=
  MayOwe.of_cut (L := L) (lev := lv) (lvSem sm)
    (fun p hp => by rw [Finset.mem_singleton.mp hp, L_tc]; exact Finset.mem_singleton_self _)
    (fun g u hg => by
      obtain ⟨p, -, h1, -⟩ := owedL_pos hg
      unfold L; rw [if_pos h1]; exact Finset.mem_singleton_self _)
    (fun p hp => by rw [Finset.mem_singleton.mp hp]; exact le_rfl)
    (fun g u hg => by
      obtain ⟨p, hp, -, e⟩ := owedL_pos hg
      rw [e]; exact h p hp)

end Cert.KernelIdeal.Run

end
-- ==== Proof.Ideal.Res.lean ====
/- The resources a device holds while it runs, by name. A resource's name does not mention the device; what it
   stands for does. Taking resources out of a list of names is a computation on the names. -/
module

public import proofs.«01_k».proof.Proof.Ideal.Sched

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

inductive Res where
  /-- the rows the copy `t` reads -/
  | src (t : Xfer)
  /-- the rows it fills -/
  | rx (t : Xfer)
  /-- the right to count its departure and its arrival -/
  | tok (t : Xfer)
  /-- its departure semaphore, not yet waited on -/
  | posS (t : Xfer)
  /-- that it has been started -/
  | credS (t : Xfer)
  /-- its departure semaphore, waited on -/
  | doneS (t : Xfer)
  /-- the semaphore of the copy `t` that arrives here, not yet waited on -/
  | posR (t : Xfer)
  /-- the same, waited on -/
  | doneR (t : Xfer)
  /-- a received chunk -/
  | got (q : Quarter) (k : Fin 16)
  /-- the unit to give to a neighbour's barrier -/
  | give (n : Nbr)
  /-- the barrier, not yet waited on -/
  | posB
  /-- the barrier, waited on -/
  | doneB
  /-- a local copy's semaphore, at zero -/
  | sem (s i : Fin 3)
  /-- the buffers of a set, at any contents -/
  | bX (s : Fin 3)
  | bR (s : Fin 3)
  | bO (s : Fin 3)
  /-- a tile of the input -/
  | xT (q : Quarter) (k : Fin 8)
  /-- a tile of the result, not yet written -/
  | oT (q : Quarter) (k : Fin 8)
  /-- the three local copies of a tile under way -/
  | flX (s : Fin 3) (q : Quarter) (k : Fin 8)
  | flR (s : Fin 3) (q : Quarter) (k : Fin 8)
  | flO (s : Fin 3) (q : Quarter) (k : Fin 8)
  /-- a set's buffers holding a tile of the input, of the received rows, of the sum -/
  | lX (s : Fin 3) (q : Quarter) (k : Fin 8)
  | lR (s : Fin 3) (q : Quarter) (k : Fin 8)
  | sm (s : Fin 3) (q : Quarter) (k : Fin 8)
  /-- a tile of the result, written -/
  | oD (q : Quarter) (k : Fin 8)
  deriving DecidableEq

/-! ## What the names stand for -/

/-- The part of a chunk's share a forward uses: of two forwards of one chunk the one along z takes the last. -/
def Xfer.lane : Xfer → Fin 3 | .zd _ => 2 | _ => 1

/-- What one local copy moves, in the units its semaphore counts. -/
def NB : ℕ := (rowsB oA .me (0 : Dev nD) 0).view.dmaCredit
theorem NB_pos : 0 < NB := View.dmaCredit_pos _ (by decide)

variable (m : (ℓ : Loc nD τ sig) → Buf (Elt F) ℓ) (c : Dev nD)

abbrev part (i : Fin 3) : PosShare TreeShare := Ring.shares3 fullShare i

def srcPt (t : Xfer) : sProp 𝕄 :=
  bif t.direct then xPt c (chunkSet (cidx t.srcQ c t.chunk)) (part 1) (xs m c)
  else rPt c (chunkSet (cidx t.srcQ c t.chunk)) (part t.lane) (rin m c)

/-- A buffer of a set with contents that satisfy `P`. -/
def buf (v : Memref sig .tc .vmem S1024x1024 .f32) (P : Vec F S1024x1024 .f32 → Prop) : sProp 𝕄 :=
  iprop(∃ f : Buf (Elt F) (v.view.loc (c : Thread nD τ)), ⌜P (v.view.read (Elt F) f)⌝
    ∗ (v.view.loc (c : Thread nD τ)) ↦[v.view.set]{fullShare} f)

def tileX (q : Quarter) (k : Fin 8) : Vec F S1024x1024 .f32 := (rowsB xA q c k).view.read (Elt F) (xs m c)
def tileR (q : Quarter) (k : Fin 8) : Vec F S1024x1024 .f32 := (rowsB rA q c k).view.read (Elt F) (rin m c)
def tileO (q : Quarter) (k : Fin 8) : Vec F S1024x1024 .f32 := (rowsB oA q c k).view.read (Elt F) (res m c)

def ldX (s : Fin 3) (q : Quarter) (k : Fin 8) : sProp 𝕄 := buf c (vX s) (· = tileX m c q k)
def ldR (s : Fin 3) (q : Quarter) (k : Fin 8) : sProp 𝕄 := buf c (vR s) (· = tileR m c q k)
def smO (s : Fin 3) (q : Quarter) (k : Fin 8) : sProp 𝕄 := buf c (vO s) (· = tileO m c q k)
def outD (q : Quarter) (k : Fin 8) : sProp 𝕄 := oPt c (tileSet (bidx q c k)) fullShare (res m c)

def den : Res → sProp 𝕄
  | .src t => srcPt m c t
  | .rx t => rx c t
  | .tok t => iprop(dutyTok ER (sndCell c t) 0 .y ∗ dutyTok ER (rcvCell (nbr t.nbr c) t) 0 .y)
  | .posS t => atPos ER (sndCell c t) 0 ∅ 0
  | .credS t => cred (tallyAt (sndCell c t) () N)
  | .doneS t => atPos ER (sndCell c t) (0 + 1) ∅ 0
  | .posR t => iprop(atPos ER (rcvCell c t) 0 ∅ 0 ∗ cred (tallyAt (rcvCell c t) () N))
  | .doneR t => atPos ER (rcvCell c t) (0 + 1) ∅ 0
  | .got q k => rPt c (chunkSet (cidx q c k)) (part 0) (rin m c)
  | .give n => iprop(dutyTok ER (barCell (nbr n c)) 0 n ∗ barPay (nbr n c) n)
  | .posB => iprop(atPos ER (barCell c) 0 ∅ 0 ∗ cred (tallyAt (barCell c) () 3))
  | .doneB => atPos ER (barCell c) (0 + 1) ∅ 0
  | .sem s i => semVal (locCell c s i) 0
  | .bX s => buf c (vX s) fun _ => True
  | .bR s => buf c (vR s) fun _ => True
  | .bO s => buf c (vO s) fun _ => True
  | .xT q k => xPt c (tileSet (bidx q c k)) (part 2) (xs m c)
  | .oT q k => iprop(∃ f, oPt c (tileSet (bidx q c k)) fullShare f)
  | .flX s q k => Flight EC (c : Thread nD τ) (.dma (semL s 0)) () NB (ldX m c s q k)
  | .flR s q k => Flight EC (c : Thread nD τ) (.dma (semL s 1)) () NB (ldR m c s q k)
  | .flO s q k => Flight EC (c : Thread nD τ) (.dma (semL s 2)) () NB iprop(outD m c q k ∗ buf c (vO s) fun _ => True)
  | .lX s q k => ldX m c s q k
  | .lR s q k => ldR m c s q k
  | .sm s q k => smO m c s q k
  | .oD q k => outD m c q k

def denL : List Res → sProp 𝕄
  | [] => iprop(emp)
  | r :: l => iprop(den m c r ∗ denL l)

theorem denL_append : ∀ l l' : List Res, (iprop(denL m c l ∗ denL m c l') : sProp 𝕄) ⊢ denL m c (l ++ l')
  | [], l' => by unfold denL; iintro ⟨-, H⟩; iexact H
  | r :: l, l' => by
    show iprop((den m c r ∗ denL m c l) ∗ denL m c l') ⊢ iprop(den m c r ∗ denL m c (l ++ l'))
    iintro ⟨⟨H, Hl⟩, Hl'⟩
    isplitl [H]; · iexact H
    iapply (denL_append l l')
    isplitl [Hl] <;> iassumption

theorem denL_eq : ∀ l : List Res, (bigSepL l (den m c) : sProp 𝕄) ⊢ denL m c l
  | [] => by unfold denL; exact BI.Entails.refl _
  | r :: l => by
    rw [bigSepL_cons']; unfold denL
    exact sep_mono_right (denL_eq l)

theorem denL_map {I : Type} (g : I → Res) (l : List I) : (bigSepL l (fun i => den m c (g i)) : sProp 𝕄) ⊢ denL m c (l.map g) := by
  rw [← bigSepL_map g l (den m c)]; exact denL_eq m c _

theorem denL_of {I : Type} (g : I → Res) : ∀ l : List I, (denL m c (l.map g) : sProp 𝕄) ⊢ bigSepL l (fun i => den m c (g i))
  | [] => BI.Entails.refl _
  | r :: l => by
    rw [bigSepL_cons']; show iprop(den m c (g r) ∗ denL m c (l.map g)) ⊢ _
    exact sep_mono_right (denL_of g l)

theorem denL_split : ∀ l l' : List Res, (denL m c (l ++ l') : sProp 𝕄) ⊢ iprop(denL m c l ∗ denL m c l')
  | [], l' => by unfold denL; iintro H; isplitr; · iempintro
                 iexact H
  | r :: l, l' => by
    show iprop(den m c r ∗ denL m c (l ++ l')) ⊢ iprop((den m c r ∗ denL m c l) ∗ denL m c l')
    iintro ⟨H, Hl⟩
    ihave Hl := (denL_split l l') $$ Hl
    icases Hl with ⟨Hl, Hl'⟩
    isplitr [Hl']
    · isplitl [H] <;> iassumption
    · iexact Hl'

/-! ## Taking resources out -/

def Quarter.code : Quarter → ℕ | .me => 0 | .x => 1 | .z => 2 | .diag => 3
def tcode (s : Fin 3) (q : Quarter) (k : Fin 8) : ℕ := 64 * s.val + 16 * q.code + k.val

/-- A number that tells most names apart, to compare first. -/
def Res.code : Res → ℕ
  | .src t => t.semS.val | .rx t => 256 + t.semS.val | .tok t => 512 + t.semS.val | .posS t => 768 + t.semS.val
  | .credS t => 1024 + t.semS.val | .doneS t => 1280 + t.semS.val | .posR t => 1536 + t.semS.val | .doneR t => 1792 + t.semS.val
  | .got q k => 2048 + tcode 0 q 0 + k.val | .give _ => 2304 | .posB => 2305 | .doneB => 2306
  | .sem s i => 2560 + 3 * s.val + i.val | .bX s => 2816 + s.val | .bR s => 2820 + s.val | .bO s => 2824 + s.val
  | .xT q k => 3072 + tcode 0 q k | .oT q k => 3328 + tcode 0 q k
  | .flX s q k => 3584 + tcode s q k | .flR s q k => 3840 + tcode s q k | .flO s q k => 4096 + tcode s q k
  | .lX s q k => 4352 + tcode s q k | .lR s q k => 4608 + tcode s q k | .sm s q k => 4864 + tcode s q k
  | .oD q k => 5120 + tcode 0 q k

def same (a r : Res) : Bool := a.code == r.code && decide (a = r)

def take1 (r : Res) : List Res → Option (List Res)
  | [] => none
  | a :: l => bif same a r then some l else (take1 r l).map (a :: ·)

/-- Take every name of the first list off the second. -/
def takeAll : List Res → List Res → Option (List Res)
  | [], S => some S
  | r :: l, S => (take1 r S).bind (takeAll l)

/-- Taking one name off a list takes its resource off what the list stands for. -/
theorem take1_sound {r : Res} : ∀ {S fr : List Res}, take1 r S = some fr →
    (denL m c S : sProp 𝕄) ⊢ iprop(den m c r ∗ denL m c fr)
  | [], _, h => absurd h (by simp [take1])
  | a :: l, fr, h => by
    unfold take1 at h
    cases hs : same a r with
    | true =>
      rw [hs, cond_true, Option.some.injEq] at h
      have e : a = r := by
        unfold same at hs; rw [Bool.and_eq_true] at hs; exact of_decide_eq_true hs.2
      subst h e
      exact BI.Entails.refl _
    | false =>
      rw [hs, cond_false, Option.map_eq_some_iff] at h
      obtain ⟨fr', h1, h2⟩ := h
      subst h2
      show iprop(den m c a ∗ denL m c l) ⊢ iprop(den m c r ∗ den m c a ∗ denL m c fr')
      iintro ⟨Ha, Hl⟩
      ihave Hl := (take1_sound h1) $$ Hl
      icases Hl with ⟨Hr, Hl⟩
      isplitl [Hr]; · iexact Hr
      isplitl [Ha] <;> iassumption

/-- Taking names off a list takes their resources off what the list stands for. -/
theorem takeAll_sound : ∀ {l S fr : List Res}, takeAll l S = some fr →
    (denL m c S : sProp 𝕄) ⊢ iprop(denL m c l ∗ denL m c fr)
  | [], S, fr, h => by
    unfold takeAll at h; rw [Option.some.injEq] at h; subst h
    show _ ⊢ iprop(emp ∗ denL m c S)
    iintro H; isplitr; · iempintro
    iexact H
  | r :: l, S, fr, h => by
    unfold takeAll at h
    rw [Option.bind_eq_some_iff] at h
    obtain ⟨S', h1, h2⟩ := h
    show _ ⊢ iprop((den m c r ∗ denL m c l) ∗ denL m c fr)
    iintro H
    ihave H := (take1_sound m c h1) $$ H
    icases H with ⟨Hr, H⟩
    ihave H := (takeAll_sound h2) $$ H
    icases H with ⟨Hl, H⟩
    isplitr [H]
    · isplitl [Hr] <;> iassumption
    · iexact H

/-! ## What a step needs and leaves -/

/-- The forwards of an arrived chunk. -/
def fwd1 : Xfer → Option Xfer
  | .y k => some (.xd k)
  | .xd k => if h : 10 ≤ k.val then some (.zg ⟨k.val - 10, by have := k.isLt; omega⟩) else none
  | .zd k => if h : 4 ≤ k.val ∧ k.val < 10 then some (.xg ⟨k.val - 4, by omega⟩) else none
  | _ => none
def fwd2 : Xfer → Option Xfer
  | .y k => some (.zd k)
  | _ => none

theorem fwd1_ok (t t' : Xfer) (h : fwd1 t = some t') : t'.direct = false ∧ t'.lane = 1 ∧ ∀ c, cidx t'.srcQ c t'.chunk = inIdx c t := by
  revert t t'; decide +kernel
theorem fwd2_ok (t t' : Xfer) (h : fwd2 t = some t') : t'.direct = false ∧ t'.lane = 2 ∧ ∀ c, cidx t'.srcQ c t'.chunk = inIdx c t := by
  revert t t'; decide +kernel

/-- The names an arrived chunk becomes: a share to read, and a share for each transfer that forwards it. -/
def landed (t : Xfer) : List Res := .got t.dstQ t.chunk :: ((fwd1 t).toList.map .src ++ (fwd2 t).toList.map .src)

/-- The names a step uses up. -/
def Op.pre : Op → List Res
  | .sgnl n => [.give n]
  | .bar => [.posB]
  | .send t => [.src t, .rx t, .tok t]
  | .waitR t => [.posR t]
  | .waitS t => [.posS t, .credS t]
  | .ldx s q k => [.xT q k, .bX s, .sem s 0]
  | .ldr s q k => [.got q (lo k), .got q (hi k), .bR s, .sem s 1]
  | .wldx s q k => [.flX s q k]
  | .wldr s q k => [.flR s q k]
  | .comp s q k => [.lX s q k, .lR s q k, .bO s]
  | .st s q k => [.sm s q k, .oT q k, .sem s 2]
  | .wst s q k => [.flO s q k]

/-- The names a step makes. -/
def Op.post : Op → List Res
  | .sgnl _ => []
  | .bar => .doneB :: ((xferTo .y).map .rx ++ ((xferTo .x).map .rx ++ (xferTo .z).map .rx))
  | .send t => [.credS t]
  | .waitR t => .doneR t :: landed t
  | .waitS t => [.doneS t]
  | .ldx s q k => [.flX s q k]
  | .ldr s q k => [.flR s q k]
  | .wldx s q k => [.lX s q k, .sem s 0]
  | .wldr s q k => [.lR s q k, .sem s 1]
  | .comp s q k => [.bX s, .bR s, .sm s q k]
  | .st s q k => [.flO s q k]
  | .wst s q k => [.oD q k, .bO s, .sem s 2]

/-- The semaphore a step waits on. -/
def Op.waits : Op → Option (SemLoc sig)
  | .bar => some (.reg barS)
  | .waitR t => some (.dma t.semR)
  | .waitS t => some (.dma t.semS)
  | .wldx s _ _ => some (.dma (semL s 0))
  | .wldr s _ _ => some (.dma (semL s 1))
  | .wst s _ _ => some (.dma (semL s 2))
  | _ => none

/-- A wait is below everything owed after it. -/
def below (o : Op) (l : List Pay) : Bool :=
  match o.waits with
  | some sm => l.all fun p => lvSem sm < lvPay p
  | none => true

/-- What the test of a wait means: everything owed after it has a higher level. -/
theorem below_of {o : Op} {l : List Pay} {sm : SemLoc sig} (ho : o.waits = some sm) (h : below o l = true) :
    ∀ p ∈ l, lvSem sm < lvPay p := fun p hp => by
  unfold below at h; rw [ho] at h
  exact of_decide_eq_true (List.all_eq_true.mp h p hp)

/-- Run the list on the names: what is left at the end, if every step finds what it needs. -/
def legal : List Op → List Res → Option (List Res)
  | [], S => some S
  | o :: os, S => bif below o (os.filterMap Op.pays) then (takeAll o.pre S).bind fun fr => legal os (o.post ++ fr) else none

/-! ## The names at the start and at the end -/

def sets : List (Fin 3) := [0, 1, 2]
def sets2 : List (Fin 3 × Fin 3) := [(0, 0), (0, 1), (0, 2), (1, 0), (1, 1), (1, 2), (2, 0), (2, 1), (2, 2)]
def quarters : List Quarter := [.me, .x, .z, .diag]
def allT : List (Quarter × Fin 8) := quarters.flatMap fun q => (List.finRange 8).map fun k => (q, k)
def directs : List Xfer := allX.filter fun t => t.direct

/-- The names a device starts with. -/
def start : List Res :=
  directs.map .src ++ (allX.map .tok ++ (allX.map .posS ++ (allX.map .posR ++ ([.y, .x, .z].map .give ++ ([.posB] ++
  (sets2.map (fun p => .sem p.1 p.2) ++ (sets.map .bX ++ (sets.map .bR ++ (sets.map .bO ++
  (allT.map (fun p => .xT p.1 p.2) ++ allT.map (fun p => .oT p.1 p.2)))))))))))

/-- The names a device ends with. -/
def finish_ : List Res :=
  allX.map .doneS ++ (allX.map .doneR ++ ([.doneB] ++ (sets2.map (fun p => .sem p.1 p.2) ++ (sets.map .bX ++
  (sets.map .bR ++ (sets.map .bO ++ allT.map (fun p => .oD p.1 p.2)))))))

/-- The list is legal from the start, and the end is among what it leaves. -/
theorem legal_all : ((legal allOps start).bind (takeAll finish_)).isSome = true := by decide +kernel

end Cert.KernelIdeal.Run

end
-- ==== Proof.Ideal.Steps.lean ====
/- One rule per kind of step: from the resources the step needs to the resources it leaves. -/
module

public import proofs.«01_k».proof.Proof.Ideal.Res

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## The context every step may use -/

/-- The shared semaphores of a device: its barrier, its departures, its arrivals. -/
abbrev Ci : Type := Unit ⊕ (Xfer ⊕ Xfer)
def kcell : Dev nD × Ci → GSem nD τ sig
  | (c, .inl ()) => barCell c
  | (c, .inr (.inl t)) => sndCell c t
  | (c, .inr (.inr t)) => rcvCell c t

variable (m : (ℓ : Loc nD τ sig) → Buf (Elt F) ℓ) (K : Dev nD × Ci → ℕ)

def record (p : Dev nD × Ci) : sProp 𝕄 := iprop(cellInv ER (Rd m) (K p) (kcell p) ∗ reached ER (kcell p) 0)
def records : sProp 𝕄 := bigSep Finset.univ (record m K)
instance record_persistent (p : Dev nD × Ci) : BI.Persistent (record (F := F) m K p) := by unfold record; infer_instance
instance records_persistent : BI.Persistent (records (F := F) m K) := by unfold records; infer_instance

/-- The records of all cells give the record of one. -/
theorem records_get (p : Dev nD × Ci) : (records (F := F) m K) ⊢ record m K p := by
  unfold records; exact bigSep_elim (Finset.mem_univ p)

/-- What every step may read: the records of the cells and the levels. -/
def ctx : sProp 𝕄 := iprop(records m K ∗ levAts L lv)
instance ctx_persistent : BI.Persistent (ctx (F := F) m K) := by unfold ctx; infer_instance

/-- A device owes the payments of a list. -/
def owes' (c : Dev nD) (l : List Pay) : sProp 𝕄 := iprop(∃ W, owes (c : Thread nD τ) (owedL c l) W)
/-- Owing one payment more. -/
theorem owedL_cons (c : Dev nD) (p : Pay) (l : List Pay) : owedL c (p :: l) = owedL c l + payTally c p := by
  unfold owedL; rw [List.map_cons, List.sum_cons, add_comm]

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-! ## Signals and the barrier -/

/-- The signal to a neighbour pays one of the neighbour's barrier duties. -/
theorem step_sgnl (n : Nbr) (l : List Pay)
    {α : Type} {Q : α → sProp 𝕄} {k : PUnit → Prog (TpuEff nD τ sig (Elt F) Λ₀ .tc) α} :
    iprop(ctx m K ∗ den m c (.give n) ∗ owes' (F := F) c (.inl n :: l))
      ⊢ iprop((owes' c l -∗ wpc c (k ⟨⟩) Q) -∗ wpc c (Op.run c (.sgnl n) >>= k) Q) := by
  simp only [Op.run, semSignalWord, Prog.lift, Prog.bind_op, Prog.bind_ret, Prog.pure_eq_ret]
  unfold owes' ctx den
  iintro ⟨⟨#HR, #HL⟩, ⟨Htok, Hpay⟩, ⟨%W, HO⟩⟩ Hk
  ihave HI := (records_get m K (nbr n c, .inl ())) $$ HR
  unfold record kcell
  icases HI with ⟨HI, Hr⟩
  iapply (Rounds.wp_signal 𝒱₀ ER (Rd m) (c : Thread nD τ) none (dst := (nbr n c : Thread nD τ)) (κ := K (nbr n c, .inl ())) (r := 0)
      (d := n) (by rw [duties_bar]; exact Finset.mem_univ _) (amount_bar m (nbr n c) n) () (owedL c l) (owedL_cons c (.inl n) l)) $$ [HO Htok Hpay HI Hr]
  · isplitl [HI]; · iexact HI
    isplitl [HO]; · iexact HO
    isplitl [Htok]; · iexact Htok
    isplitl [Hpay]; · rw [payload_bar]; iexact Hpay
    iexact Hr
  iintro HO
  iapply Hk
  iexists W; iexact HO

/-- The barrier wait collects what the three neighbours handed over. -/
theorem step_bar (l : List Pay) (hl : ∀ p ∈ l, lvSem (.reg barS) < lvPay p)
    {α : Type} {Q : α → sProp 𝕄} {k : PUnit → Prog (TpuEff nD τ sig (Elt F) Λ₀ .tc) α} :
    iprop(ctx m K ∗ den m c .posB ∗ owes' (F := F) c l)
      ⊢ iprop(((den m c .doneB ∗ barPay c .y ∗ barPay c .x ∗ barPay c .z ∗ owes' c l) -∗ wpc c (k ⟨⟩) Q)
          -∗ wpc c (Op.run c .bar >>= k) Q) := by
  simp only [Op.run, semWaitWord, Prog.lift, Prog.bind_op, Prog.bind_ret, Prog.pure_eq_ret]
  unfold owes' ctx den
  iintro ⟨⟨#HR, #HL⟩, ⟨Hat, Hc⟩, ⟨%W, HO⟩⟩ Hk
  ihave HI := (records_get m K (c, .inl ())) $$ HR
  unfold record kcell
  icases HI with ⟨HI, -⟩
  iapply (Rounds.wp_wait_rest_token 𝒱₀ ER (Rd m) (c : Thread nD τ) none (κ := K (c, .inl ()))
      (wpE_semWait_eq 𝒱₀ (c : Thread nD τ) none Set.univ) (Set.mem_univ _) () (O := owedL c l) (W := W) (R := 0) (m := 0) (T := ∅)
      (by rw [expect_bar]; decide)) $$ [HI Hc HO Hat]
  · isplitl [HI]; · iexact HI
    isplitl [Hc]; · iexact Hc
    isplitl [HO]; · iexact HO
    isplitr; · iapply (mayWait c (.reg barS) l hl); iexact HL
    iexact Hat
  iintro ⟨HO, Hat, -, Hpay⟩
  ihave Hp := (Entails.of_eq (rest_bar m c)) $$ Hpay
  icases Hp with ⟨Hy, Hx, Hz⟩
  iapply Hk
  isplitl [Hat]; · iexact Hat
  isplitl [Hy]; · iexact Hy
  isplitl [Hx]; · iexact Hx
  isplitl [Hz]; · iexact Hz
  iexists (insert (SemLoc.reg barS, ()) W); iexact HO

/-! ## Remote copies -/

/-- Writing what was read of `G` leaves `G` where the view writes. -/
theorem write_read_eq {κ : Kind} {sp : Space} {s : Shape} {e : EltTy} (v : View sig κ sp s e)
    (f G : v.ref.ty.Contents (Elt F)) : ∀ i ∈ v.set, v.write (Elt F) f (v.read (Elt F) G) Finset.univ i = G i := by
  intro i hi
  obtain ⟨j, -, rfl⟩ := Finset.mem_map.mp hi
  rw [View.write_emb_of_mem _ _ (Finset.mem_univ j), View.read_apply, cast_cast, cast_eq]

/-- Rows written by a transfer are what its receiver is paid. -/
theorem send_lands (t : Xfer) (f : Pos → Elt F .f32) (w : Vec F S512x1024 .f32)
    (hw : w = (rows rA t.srcQ c t.chunk).view.read (Elt F) (rin m (nbr t.nbr c))) :
    ((rows rA t.srcQ c t.chunk).view.loc (nbr t.nbr c : Thread nD τ) ↦[(rows rA t.srcQ c t.chunk).view.set]{fullShare}
      ((rows rA t.srcQ c t.chunk).view.write (Elt F) f w Finset.univ) : sProp 𝕄) ⊢ rcvPay m (nbr t.nbr c) t := by
  subst hw
  rw [pointsTo_congr (write_read_eq (F := F) (rows rA t.srcQ c t.chunk).view f (rin m (nbr t.nbr c)))]
  unfold rcvPay rPt inIdx
  rw [set_rA, cidx_dst]

set_option maxHeartbeats 1000000 in
/-- A remote copy whose source reads what its receiver ends with. -/
theorem wp_send_rows (t : Xfer) (src : Memref sig .tc .hbm S512x1024 .f32) (q : PosShare TreeShare)
    (fs : Buf (Elt F) (src.view.loc (c : Thread nD τ)))
    (hread : src.view.read (Elt F) fs = (rows rA t.srcQ c t.chunk).view.read (Elt F) (rin m (nbr t.nbr c)))
    {α : Type} {Q : α → sProp 𝕄} {k : PUnit → Prog (TpuEff nD τ sig (Elt F) Λ₀ .tc) α}
    {hsc : (rows rA t.srcQ c t.chunk).view.ref.isScScratch = false}
    {hsrc : src.view.WordExact} {hdst : (rows rA t.srcQ c t.chunk).view.WordExact}
    {hsem : DmaTarget.Typed .hbm (.dma t.semR) (.remote (Dev.tc (nbr t.nbr c)) (rows rA t.srcQ c t.chunk) (.dma t.semS) hsc)} (l : List Pay) :
    iprop(ctx m K ∗ (src.view.loc (c : Thread nD τ) ↦[src.view.set]{q} fs) ∗ den m c (.rx t) ∗ den m c (.tok t) ∗ owes' (F := F) c (.inr t :: l))
      ⊢ iprop(((den m c (.credS t) ∗ owes' c l) -∗ wpc c (k ⟨⟩) Q)
          -∗ wpc c (.op (.enqueueDma src (.remote (Dev.tc (nbr t.nbr c)) (rows rA t.srcQ c t.chunk) (.dma t.semS) hsc) (.dma t.semR) hsrc hdst hsem) k) Q) := by
  unfold owes' ctx den rx
  iintro ⟨⟨#HR, #HL⟩, Hs, ⟨%f, Hd⟩, ⟨HtS, HtR⟩, ⟨%W, HO⟩⟩ Hk
  ihave HIS := (records_get m K (c, .inr (.inl t))) $$ HR
  ihave HIR := (records_get m K (nbr t.nbr c, .inr (.inr t))) $$ HR
  unfold record kcell
  icases HIS with ⟨HIS, HrS⟩
  icases HIR with ⟨HIR, HrR⟩
  unfold rPt
  rw [← set_rA t.srcQ c t.chunk]
  iapply (Rounds.wp_send_pointsTo 𝒱₀ ER (Rd m) (c : Thread nD τ) none (κ₁ := K (c, .inr (.inl t))) (κ₂ := K (nbr t.nbr c, .inr (.inr t)))
    (r₁ := 0) (r₂ := 0) (d₁ := .y) (d₂ := .y) (fd := f) (q := q) (fs := fs)
    (by rw [duties_snd]; exact Finset.mem_singleton_self _) (by rw [duties_rcv]; exact Finset.mem_singleton_self _)
    () () N (amount_rows t.srcQ c t.chunk t.semR) (amount_snd m c t .y) (amount_rcv m _ t .y) (owedL c l) (owedL_cons c (.inr t) l) (W := W)
    (by rw [payload_snd]; iintro -; iempintro)
    (by rw [payload_rcv]; exact send_lands m c t f _ hread)) $$ [HIS HIR Hs Hd HO HtS HtR HrS HrR]
  · isplitl [HIS]; · iexact HIS
    isplitl [HIR]; · iexact HIR
    isplitl [Hs]; · iexact Hs
    isplitl [Hd]; · iexact Hd
    isplitl [HO]; · iexact HO
    isplitl [HtS]; · iexact HtS
    isplitl [HrS]; · iexact HrS
    isplitl [HtR] <;> iassumption
  iintro ⟨Hc, HO⟩
  iapply Hk
  isplitl [Hc]; · iexact Hc
  iexists W; iexact HO

/-- Reading the same rows of two arrays that agree on them. -/
theorem read_rows_x (q : Quarter) (kk : Fin 16) (G : Pos → Elt F .f32) (h : ∀ i ∈ chunkSet (cidx q c kk), xs m c i = G i) :
    (rows xA q c kk).view.read (Elt F) (xs m c) = (rows rA q c kk).view.read (Elt F) G := by
  funext j
  rw [View.read_apply, View.read_apply]
  refine h _ ?_
  rw [← set_xA q c kk]
  exact Finset.mem_map_of_mem _ (Finset.mem_univ j)
/-- Rows of the landing array read as the same rows of an array that agrees on them. -/
theorem read_rows_r (q : Quarter) (kk : Fin 16) (f G : Pos → Elt F .f32) (h : ∀ i ∈ chunkSet (cidx q c kk), f i = G i) :
    (rows rA q c kk).view.read (Elt F) f = (rows rA q c kk).view.read (Elt F) G := by
  funext j
  rw [View.read_apply, View.read_apply]
  refine h _ ?_
  rw [← set_rA q c kk]
  exact Finset.mem_map_of_mem _ (Finset.mem_univ j)

set_option maxHeartbeats 1000000 in
/-- A transfer, from the input if direct and from the landing array if not. -/
theorem send_from (t : Xfer) (l : List Pay) (A : Memref sig .tc .hbm S32768x1024 .f32)
    (hA1 : t.direct = true → A = xA) (hA0 : t.direct = false → A = rA)
    {α : Type} {Q : α → sProp 𝕄} {k : PUnit → Prog (TpuEff nD τ sig (Elt F) Λ₀ .tc) α}
    {hsc : (rows rA t.srcQ c t.chunk).view.ref.isScScratch = false}
    {hsrc : (rows A t.srcQ c t.chunk).view.WordExact} {hdst : (rows rA t.srcQ c t.chunk).view.WordExact}
    {hsem : DmaTarget.Typed .hbm (.dma t.semR) (.remote (Dev.tc (nbr t.nbr c)) (rows rA t.srcQ c t.chunk) (.dma t.semS) hsc)} :
    iprop(ctx m K ∗ den m c (.src t) ∗ den m c (.rx t) ∗ den m c (.tok t) ∗ owes' (F := F) c (.inr t :: l))
      ⊢ iprop(((den m c (.credS t) ∗ owes' c l) -∗ wpc c (k ⟨⟩) Q)
          -∗ wpc c (.op (.enqueueDma (rows A t.srcQ c t.chunk) (.remote (Dev.tc (nbr t.nbr c)) (rows rA t.srcQ c t.chunk) (.dma t.semS) hsc) (.dma t.semR) hsrc hdst hsem) k) Q) := by
  have hx (hd : t.direct = true) : ∀ i ∈ chunkSet (cidx t.srcQ c t.chunk), xs m c i = rin m (nbr t.nbr c) i := fun i hi => by
    have h := carried_eq m t c i hi; unfold carried at h; rwa [if_pos hd] at h
  have hr (hd : t.direct = false) : ∀ i ∈ chunkSet (cidx t.srcQ c t.chunk), rin m c i = rin m (nbr t.nbr c) i := fun i hi => by
    have h := carried_eq m t c i hi; unfold carried at h; rwa [if_neg (by rw [hd]; decide)] at h
  have ex (q : PosShare TreeShare) : (xPt c (chunkSet (cidx t.srcQ c t.chunk)) q (xs m c) : sProp 𝕄)
      ⊢ ((rows xA t.srcQ c t.chunk).view.loc (c : Thread nD τ) ↦[(rows xA t.srcQ c t.chunk).view.set]{q} xs m c) := by
    rw [set_xA]; exact BI.Entails.refl _
  have er (q : PosShare TreeShare) : (rPt c (chunkSet (cidx t.srcQ c t.chunk)) q (rin m c) : sProp 𝕄)
      ⊢ ((rows rA t.srcQ c t.chunk).view.loc (c : Thread nD τ) ↦[(rows rA t.srcQ c t.chunk).view.set]{q} rin m c) := by
    rw [set_rA]; exact BI.Entails.refl _
  have key : ∀ h, t.direct = h → (den m c (.src t) : sProp 𝕄) ⊢ bif h then
      ((rows xA t.srcQ c t.chunk).view.loc (c : Thread nD τ) ↦[(rows xA t.srcQ c t.chunk).view.set]{part 1} xs m c)
      else ((rows rA t.srcQ c t.chunk).view.loc (c : Thread nD τ) ↦[(rows rA t.srcQ c t.chunk).view.set]{part t.lane} rin m c) := by
    intro h hh
    show srcPt m c t ⊢ _
    unfold srcPt
    rw [hh]
    cases h
    · exact er _
    · exact ex _
  cases hd : t.direct with
  | true =>
    cases hA1 hd
    exact (sep_mono_right (sep_mono_left (key true hd))).trans (wp_send_rows m K c t _ _ _ (read_rows_x m c _ _ _ (hx hd)) l)
  | false =>
    cases hA0 hd
    exact (sep_mono_right (sep_mono_left (key false hd))).trans (wp_send_rows m K c t _ _ _ (read_rows_r c _ _ _ _ (hr hd)) l)

/-- A transfer starts: the credit of its departure is left. -/
theorem step_send (t : Xfer) (l : List Pay)
    {α : Type} {Q : α → sProp 𝕄} {k : PUnit → Prog (TpuEff nD τ sig (Elt F) Λ₀ .tc) α} :
    iprop(ctx m K ∗ den m c (.src t) ∗ den m c (.rx t) ∗ den m c (.tok t) ∗ owes' (F := F) c (.inr t :: l))
      ⊢ iprop(((den m c (.credS t) ∗ owes' c l) -∗ wpc c (k ⟨⟩) Q) -∗ wpc c (Op.run c (.send t) >>= k) Q) := by
  have hA1 : t.direct = true → t.srcA = xA := fun h => by cases t <;> first | rfl | cases h
  have hA0 : t.direct = false → t.srcA = rA := fun h => by cases t <;> first | rfl | cases h
  simp only [Op.run, Prog.lift, Prog.bind_op, Prog.bind_ret, Prog.pure_eq_ret]
  exact send_from m K c t l t.srcA hA1 hA0

/-- The wait for a departure. -/
theorem step_waitS (t : Xfer) (l : List Pay) (hl : ∀ p ∈ l, lvSem (.dma t.semS) < lvPay p)
    {α : Type} {Q : α → sProp 𝕄} {k : PUnit → Prog (TpuEff nD τ sig (Elt F) Λ₀ .tc) α} :
    iprop(ctx m K ∗ den m c (.posS t) ∗ den m c (.credS t) ∗ owes' (F := F) c l)
      ⊢ iprop(((den m c (.doneS t) ∗ owes' c l) -∗ wpc c (k ⟨⟩) Q) -∗ wpc c (Op.run c (.waitS t) >>= k) Q) := by
  simp only [Op.run, Prog.lift, Prog.bind_op, Prog.bind_ret, Prog.pure_eq_ret]
  unfold owes' ctx den
  iintro ⟨⟨#HR, #HL⟩, Hat, Hc, ⟨%W, HO⟩⟩ Hk
  ihave HI := (records_get m K (c, .inr (.inl t))) $$ HR
  unfold record kcell
  icases HI with ⟨HI, -⟩
  iapply (Rounds.wp_wait_rest_token 𝒱₀ ER (Rd m) (c : Thread nD τ) none (κ := K (c, .inr (.inl t)))
      (wpE_waitDma2_eq 𝒱₀ (c : Thread nD τ) none Set.univ) (Set.mem_univ _) () (O := owedL c l) (W := W) (R := 0) (m := 0) (T := ∅)
      (by rw [Nat.zero_add, expect_snd]; exact N_rowsx t t.srcQ c t.chunk)) $$ [HI Hc HO Hat]
  · isplitl [HI]; · iexact HI
    isplitl [Hc]; · rw [show N = (rows t.srcA t.srcQ c t.chunk).view.dmaCredit from (N_rowsx t t.srcQ c t.chunk).symm]; iexact Hc
    isplitl [HO]; · iexact HO
    isplitr; · iapply (mayWait c (.dma t.semS) l hl); iexact HL
    iexact Hat
  iintro ⟨HO, Hat, -, -⟩
  iapply Hk
  isplitl [Hat]; · iexact Hat
  iexists (insert (SemLoc.dma t.semS, ()) W); iexact HO

/-- The wait for an arrival collects the arrived chunk. -/
theorem step_waitR (t : Xfer) (l : List Pay) (hl : ∀ p ∈ l, lvSem (.dma t.semR) < lvPay p)
    {α : Type} {Q : α → sProp 𝕄} {k : PUnit → Prog (TpuEff nD τ sig (Elt F) Λ₀ .tc) α} :
    iprop(ctx m K ∗ den m c (.posR t) ∗ owes' (F := F) c l)
      ⊢ iprop(((den m c (.doneR t) ∗ rcvPay m c t ∗ owes' c l) -∗ wpc c (k ⟨⟩) Q) -∗ wpc c (Op.run c (.waitR t) >>= k) Q) := by
  simp only [Op.run, Prog.lift, Prog.bind_op, Prog.bind_ret, Prog.pure_eq_ret]
  unfold owes' ctx den
  iintro ⟨⟨#HR, #HL⟩, ⟨Hat, Hc⟩, ⟨%W, HO⟩⟩ Hk
  ihave HI := (records_get m K (c, .inr (.inr t))) $$ HR
  unfold record kcell
  icases HI with ⟨HI, -⟩
  iapply (Rounds.wp_wait_rest_token 𝒱₀ ER (Rd m) (c : Thread nD τ) none (κ := K (c, .inr (.inr t)))
      (wpE_waitDma2_eq 𝒱₀ (c : Thread nD τ) none Set.univ) (Set.mem_univ _) () (O := owedL c l) (W := W) (R := 0) (m := 0) (T := ∅)
      (by rw [Nat.zero_add, expect_rcv]; rfl)) $$ [HI Hc HO Hat]
  · isplitl [HI]; · iexact HI
    isplitl [Hc]; · iexact Hc
    isplitl [HO]; · iexact HO
    isplitr; · iapply (mayWait c (.dma t.semR) l hl); iexact HL
    iexact Hat
  iintro ⟨HO, Hat, -, Hpay⟩
  ihave Hpay := (Entails.of_eq (rest_rcv m c t)) $$ Hpay
  iapply Hk
  isplitl [Hat]; · iexact Hat
  isplitl [Hpay]; · iexact Hpay
  iexists (insert (SemLoc.dma t.semR, ()) W); iexact HO

/-- An arrived chunk, shared out. -/
theorem landed_den (t : Xfer) : (rcvPay m c t : sProp 𝕄) ⊢ denL m c (landed t) := by
  have fw (o : Option Xfer) (i : Fin 3) (h : ∀ t', o = some t' → t'.direct = false ∧ t'.lane = i ∧ ∀ c, cidx t'.srcQ c t'.chunk = inIdx c t) :
      (rPt c (chunkSet (inIdx c t)) (part i) (rin m c) : sProp 𝕄) ⊢ denL m c (o.toList.map .src) := by
    cases o with
    | none => unfold denL; iintro -; iempintro
    | some t' =>
      obtain ⟨h1, h2, h3⟩ := h t' rfl
      show _ ⊢ iprop(srcPt m c t' ∗ emp)
      unfold srcPt
      rw [h1, h2, h3 c, cond_false]
      iintro H; isplitl [H]; · iexact H
      iempintro
  unfold rcvPay rPt
  iintro H
  ihave H := (Ring.pointsTo_thirds fullShare _).1 $$ H
  icases H with ⟨H0, H1, H2⟩
  unfold landed denL
  isplitl [H0]; · unfold den rPt; iexact H0
  iapply (denL_append m c)
  isplitl [H1]
  · iapply (fw (fwd1 t) 1 (fwd1_ok t)); unfold rPt; iexact H1
  · iapply (fw (fwd2 t) 2 (fwd2_ok t)); unfold rPt; iexact H2

end Cert.KernelIdeal.Run

end
-- ==== Proof.Ideal.Local.lean ====
/- The steps that stay on one device: the tiles' copies into the buffers and out of them, and the sum. -/
module

public import proofs.«01_k».proof.Proof.Ideal.Steps
public import Idealize.ShloMosaic.Lib.Pointwise.Reshape
public import Idealize.ShloMosaic.Lib.Pointwise.ElementwiseCore

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-! ## Loads of tiles -/

theorem amount_vX (s : Fin 3) : (vX s).view.dmaCredit = NB := by match s with | 0 => rfl | 1 => rfl | 2 => rfl
theorem amount_vR (s : Fin 3) : (vR s).view.dmaCredit = NB := by match s with | 0 => rfl | 1 => rfl | 2 => rfl
theorem amount_oA (q : Quarter) (kk : Fin 8) : (rowsB oA q c kk).view.dmaCredit = NB := rfl

/-- A tile copied into a buffer. -/
theorem wp_tile_in (src : Memref sig .tc .hbm S1024x1024 .f32) (v : Memref sig .tc .vmem S1024x1024 .f32) (sm : DmaSem sig)
    (hN : v.view.dmaCredit = NB) (q : PosShare TreeShare) (fs : Buf (Elt F) (src.view.loc (c : Thread nD τ)))
    {hsrc : src.view.WordExact} {hdst : v.view.WordExact} {hsem : (DmaTarget.here v : DmaTarget nD τ sig .tc .vmem S1024x1024 .f32).Typed .hbm (.dma sm)}
    {α : Type} {Q : α → sProp 𝕄} {k : PUnit → Prog (TpuEff nD τ sig (Elt F) Λ₀ .tc) α} :
    iprop((src.view.loc (c : Thread nD τ) ↦[src.view.set]{q} fs) ∗ buf (F := F) c v (fun _ => True) ∗ semVal ((c : Thread nD τ), .dma sm) 0)
      ⊢ iprop((Flight EC (c : Thread nD τ) (.dma sm) () NB (buf c v (· = src.view.read (Elt F) fs)) -∗ wpc c (k ⟨⟩) Q)
          -∗ wpc c (.op (.enqueueDma src (.here v) (.dma sm) hsrc hdst hsem) k) Q) := by
  unfold buf
  iintro ⟨Hs, ⟨%fd, -, Hd⟩, Hv⟩ Hk
  iapply (wp_dmaLocal EC 𝒱₀ (c : Thread nD τ) none (src := src) (dst := v) (sm := .dma sm) (q := q) (fs := fs) (fd := fd) (Sd := v.view.set)
    () NB hN NB_pos (fun _ h => h)) $$ [Hs Hd Hv]
  · isplitl [Hs]; · iexact Hs
    isplitl [Hd] <;> iassumption
  iintro Hf
  iapply Hk
  iapply (Flight_mono EC (c : Thread nD τ) (D := _) (D' := _) ?_) $$ Hf
  iintro ⟨Hd, -⟩
  iexists _
  isplitr
  rotate_left
  · iexact Hd
  · ipureintro; exact View.read_write_univ _ _

/-- The load of an input tile starts. -/
theorem step_ldx (s : Fin 3) (q : Quarter) (kk : Fin 8)
    {α : Type} {Q : α → sProp 𝕄} {k : PUnit → Prog (TpuEff nD τ sig (Elt F) Λ₀ .tc) α} :
    iprop(den m c (.xT q kk) ∗ den m c (.bX s) ∗ den m c (.sem s 0))
      ⊢ iprop((den m c (.flX s q kk) -∗ wpc c (k ⟨⟩) Q) -∗ wpc c (Op.run c (.ldx s q kk) >>= k) Q) := by
  simp only [Op.run, Prog.lift, Prog.bind_op, Prog.bind_ret, Prog.pure_eq_ret]
  have e : (den m c (.xT q kk) : sProp 𝕄) ⊢ ((rowsB xA q c kk).view.loc (c : Thread nD τ) ↦[(rowsB xA q c kk).view.set]{part 2} xs m c) := by
    rw [setB_xA]; unfold den xPt; exact BI.Entails.refl _
  exact (sep_mono_left e).trans (wp_tile_in c (rowsB xA q c kk) (vX s) (semL s 0) (amount_vX s) _ _)

/-- Two received chunks are a tile. -/
theorem got_tile (q : Quarter) (kk : Fin 8) :
    (iprop(den m c (.got q (lo kk)) ∗ den m c (.got q (hi kk))) : sProp 𝕄)
      ⊢ ((rowsB rA q c kk).view.loc (c : Thread nD τ) ↦[(rowsB rA q c kk).view.set]{part 0} rin m c) := by
  dsimp only [den]
  unfold rPt
  rw [setB_rA, tile_eq, cidx_lo, cidx_hi]
  exact (pointsTo_union (chunk_disjoint (by omega))).2

/-- The load of a received tile starts. -/
theorem step_ldr (s : Fin 3) (q : Quarter) (kk : Fin 8)
    {α : Type} {Q : α → sProp 𝕄} {k : PUnit → Prog (TpuEff nD τ sig (Elt F) Λ₀ .tc) α} :
    iprop((den m c (.got q (lo kk)) ∗ den m c (.got q (hi kk))) ∗ den m c (.bR s) ∗ den m c (.sem s 1))
      ⊢ iprop((den m c (.flR s q kk) -∗ wpc c (k ⟨⟩) Q) -∗ wpc c (Op.run c (.ldr s q kk) >>= k) Q) := by
  simp only [Op.run, Prog.lift, Prog.bind_op, Prog.bind_ret, Prog.pure_eq_ret]
  exact (sep_mono_left (got_tile m c q kk)).trans (wp_tile_in c (rowsB rA q c kk) (vR s) (semL s 1) (amount_vR s) _ _)

/-! ## Waits of local copies -/

/-- The wait of a local copy gives what the copy leaves. -/
theorem wp_flight {κ' : Kind} {sp sp' : Space} {S S' : Shape} {e e' : EltTy} (src : Memref sig .tc sp S e) (dst : Memref sig κ' sp' S' e')
    (sm : DmaSem sig) (hN : dst.view.dmaCredit = NB) (D : sProp 𝕄) (l : List Pay) (hl : ∀ p ∈ l, lvSem (.dma sm) < lvPay p)
    {hsrc : src.view.WordExact} {hdst : dst.view.WordExact}
    {α : Type} {Q : α → sProp 𝕄} {k : PUnit → Prog (TpuEff nD τ sig (Elt F) Λ₀ .tc) α} :
    iprop(ctx m K ∗ Flight EC (c : Thread nD τ) (.dma sm) () NB D ∗ owes' (F := F) c l)
      ⊢ iprop(((D ∗ semVal ((c : Thread nD τ), .dma sm) 0 ∗ owes' c l) -∗ wpc c (k ⟨⟩) Q)
          -∗ wpc c (.op (.waitDma2 sm src dst hsrc hdst) k) Q) := by
  unfold owes' ctx
  iintro ⟨⟨#HR, #HL⟩, Hf, ⟨%W, HO⟩⟩ Hk
  iapply (wp_waitLocalO EC 𝒱₀ (c : Thread nD τ) none () hN (O := owedL c l) (W := W)) $$ [Hf HO]
  · isplitl [Hf]; · iexact Hf
    isplitl [HO]; · iexact HO
    iapply (mayWait c (.dma sm) l hl); iexact HL
  iintro ⟨HD, Hv, HO⟩
  iapply Hk
  isplitl [HD]; · iexact HD
  isplitl [Hv]; · iexact Hv
  iexists (insert (SemLoc.dma sm, ()) W); iexact HO

/-- The wait for an input tile. -/
theorem step_wldx (s : Fin 3) (q : Quarter) (kk : Fin 8) (l : List Pay) (hl : ∀ p ∈ l, lvSem (.dma (semL s 0)) < lvPay p)
    {α : Type} {Q : α → sProp 𝕄} {k : PUnit → Prog (TpuEff nD τ sig (Elt F) Λ₀ .tc) α} :
    iprop(ctx m K ∗ den m c (.flX s q kk) ∗ owes' (F := F) c l)
      ⊢ iprop(((den m c (.lX s q kk) ∗ den m c (.sem s 0) ∗ owes' c l) -∗ wpc c (k ⟨⟩) Q) -∗ wpc c (Op.run c (.wldx s q kk) >>= k) Q) := by
  simp only [Op.run, Prog.lift, Prog.bind_op, Prog.bind_ret, Prog.pure_eq_ret]
  exact wp_flight m K c _ _ (semL s 0) (amount_vX s) _ l hl
/-- The wait for a received tile. -/
theorem step_wldr (s : Fin 3) (q : Quarter) (kk : Fin 8) (l : List Pay) (hl : ∀ p ∈ l, lvSem (.dma (semL s 1)) < lvPay p)
    {α : Type} {Q : α → sProp 𝕄} {k : PUnit → Prog (TpuEff nD τ sig (Elt F) Λ₀ .tc) α} :
    iprop(ctx m K ∗ den m c (.flR s q kk) ∗ owes' (F := F) c l)
      ⊢ iprop(((den m c (.lR s q kk) ∗ den m c (.sem s 1) ∗ owes' c l) -∗ wpc c (k ⟨⟩) Q) -∗ wpc c (Op.run c (.wldr s q kk) >>= k) Q) := by
  simp only [Op.run, Prog.lift, Prog.bind_op, Prog.bind_ret, Prog.pure_eq_ret]
  exact wp_flight m K c _ _ (semL s 1) (amount_vR s) _ l hl
/-- The wait for a stored tile. -/
theorem step_wst (s : Fin 3) (q : Quarter) (kk : Fin 8) (l : List Pay) (hl : ∀ p ∈ l, lvSem (.dma (semL s 2)) < lvPay p)
    {α : Type} {Q : α → sProp 𝕄} {k : PUnit → Prog (TpuEff nD τ sig (Elt F) Λ₀ .tc) α} :
    iprop(ctx m K ∗ den m c (.flO s q kk) ∗ owes' (F := F) c l)
      ⊢ iprop((((den m c (.oD q kk) ∗ den m c (.bO s)) ∗ den m c (.sem s 2) ∗ owes' c l) -∗ wpc c (k ⟨⟩) Q)
          -∗ wpc c (Op.run c (.wst s q kk) >>= k) Q) := by
  simp only [Op.run, Prog.lift, Prog.bind_op, Prog.bind_ret, Prog.pure_eq_ret]
  exact wp_flight m K c _ _ (semL s 2) (amount_oA c q kk) _ l hl

/-! ## The store of a tile -/

theorem step_st (s : Fin 3) (q : Quarter) (kk : Fin 8)
    {α : Type} {Q : α → sProp 𝕄} {k : PUnit → Prog (TpuEff nD τ sig (Elt F) Λ₀ .tc) α} :
    iprop(den m c (.sm s q kk) ∗ den m c (.oT q kk) ∗ den m c (.sem s 2))
      ⊢ iprop((den m c (.flO s q kk) -∗ wpc c (k ⟨⟩) Q) -∗ wpc c (Op.run c (.st s q kk) >>= k) Q) := by
  simp only [Op.run, Prog.lift, Prog.bind_op, Prog.bind_ret, Prog.pure_eq_ret]
  dsimp only [den]
  unfold smO buf oPt
  rw [← setB_oA q c kk]
  iintro ⟨⟨%fs, %hfs, Hs⟩, ⟨%fd, Hd⟩, Hv⟩ Hk
  iapply (wp_dmaLocal EC 𝒱₀ (c : Thread nD τ) none (src := vO s) (dst := rowsB oA q c kk) (sm := .dma (semL s 2)) (q := fullShare) (fs := fs)
    (fd := fd) (Sd := (rowsB oA q c kk).view.set) () NB (amount_oA c q kk) NB_pos (fun _ h => h)) $$ [Hs Hd Hv]
  · isplitl [Hs]; · iexact Hs
    isplitl [Hd] <;> iassumption
  iintro Hf
  iapply Hk
  iapply (Flight_mono EC (c : Thread nD τ) (D := _) (D' := _) ?_) $$ Hf
  iintro ⟨Hd, Hs⟩
  isplitl [Hd]
  · unfold outD oPt
    have e : (rowsB oA q c kk).view.read (Elt F) (res m c) = (vO s).view.read (Elt F) fs := hfs.symm
    have h := write_read_eq (F := F) (rowsB oA q c kk).view fd (res m c)
    rw [e] at h
    rw [← setB_oA q c kk]
    iapply (Entails.of_eq (pointsTo_congr h)); iexact Hd
  · iexists fs; isplitr; · ipureintro; trivial
    iexact Hs

/-! ## The sum -/

theorem hz : (![0, 0] : Fin 2 → Nat) = fun _ => 0 := funext fun a => by fin_cases a <;> rfl
theorem vX_read (s : Fin 3) (f : (vX s).view.ref.ty.Contents (Elt F)) :
    (vX s).view.readAt (Elt F) full.toLoadRect f = (vX s).view.read (Elt F) f := by
  match s with
  | 0 => exact Memref.readAt_unit_zero (Elt F) cc0_scratch10 hz _ f
  | 1 => exact Memref.readAt_unit_zero (Elt F) cc0_scratch13 hz _ f
  | 2 => exact Memref.readAt_unit_zero (Elt F) cc0_scratch16 hz _ f
theorem vR_read (s : Fin 3) (f : (vR s).view.ref.ty.Contents (Elt F)) :
    (vR s).view.readAt (Elt F) full.toLoadRect f = (vR s).view.read (Elt F) f := by
  match s with
  | 0 => exact Memref.readAt_unit_zero (Elt F) cc0_scratch11 hz _ f
  | 1 => exact Memref.readAt_unit_zero (Elt F) cc0_scratch14 hz _ f
  | 2 => exact Memref.readAt_unit_zero (Elt F) cc0_scratch17 hz _ f
theorem vO_write (s : Fin 3) (f : (vO s).view.ref.ty.Contents (Elt F)) (w : Vec F S1024x1024 .f32) :
    (vO s).view.read (Elt F) (((vO s).access full).write (Elt F) f w Finset.univ) = w := by
  match s with
  | 0 => exact (View.read_whole cc0_scratch12 _).trans (Memref.write_access_unit_zero_univ (Elt F) cc0_scratch12 hz _ f w)
  | 1 => exact (View.read_whole cc0_scratch15 _).trans (Memref.write_access_unit_zero_univ (Elt F) cc0_scratch15 hz _ f w)
  | 2 => exact (View.read_whole cc0_scratch18 _).trans (Memref.write_access_unit_zero_univ (Elt F) cc0_scratch18 hz _ f w)
theorem vX_univ (s : Fin 3) : (vX s).view.set = Finset.univ := by match s with | 0 => exact View.set_whole _ | 1 => exact View.set_whole _ | 2 => exact View.set_whole _
theorem vR_univ (s : Fin 3) : (vR s).view.set = Finset.univ := by match s with | 0 => exact View.set_whole _ | 1 => exact View.set_whole _ | 2 => exact View.set_whole _
theorem vO_univ (s : Fin 3) : (vO s).view.set = Finset.univ := by match s with | 0 => exact View.set_whole _ | 1 => exact View.set_whole _ | 2 => exact View.set_whole _

/-- The sum of two tiles is the tile of the sum. -/
theorem pay_tile (q : Quarter) (kk : Fin 8) : pay (tileX m c q kk) (tileR m c q kk) = tileO m c q kk := by
  unfold pay k0_pay1
  dsimp only
  rw [shapeCast_id]
  rfl

theorem step_comp (s : Fin 3) (q : Quarter) (kk : Fin 8)
    {α : Type} {Q : α → sProp 𝕄} {k : PUnit → Prog (TpuEff nD τ sig (Elt F) Λ₀ .tc) α} :
    iprop(den m c (.lX s q kk) ∗ den m c (.lR s q kk) ∗ den m c (.bO s))
      ⊢ iprop(((den m c (.bX s) ∗ den m c (.bR s) ∗ den m c (.sm s q kk)) -∗ wpc c (k ⟨⟩) Q)
          -∗ wpc c (Op.run c (.comp s q kk) >>= k) Q) := by
  simp only [Op.run, Prog.lift, Prog.bind_op, Prog.bind_ret, Prog.pure_eq_ret]
  dsimp only [den]
  unfold ldX ldR smO buf
  iintro ⟨⟨%f, %hf, Hx⟩, ⟨%g, %hg, Hr⟩, ⟨%h, -, Ho⟩⟩ Hk
  iapply (wp_load 𝒱₀ (c : Thread nD τ) none Set.univ (m := vX s) (by rw [vX_univ]; exact Finset.subset_univ _)) $$ Hx; iintro Hx
  iapply (wp_load 𝒱₀ (c : Thread nD τ) none Set.univ (m := vR s) (by rw [vR_univ]; exact Finset.subset_univ _)) $$ Hr; iintro Hr
  iapply (wp_load 𝒱₀ (c : Thread nD τ) none Set.univ (m := vO s) (by rw [vO_univ]; exact Finset.subset_univ _)) $$ Ho; iintro Ho
  rw [vX_read, vR_read, hf, hg, pay_tile]
  iapply (wp_store 𝒱₀ (c : Thread nD τ) none Set.univ (m := vO s) (r := full) (Mk := Finset.univ) (by rw [vO_univ]; exact Finset.subset_univ _)) $$ Ho; iintro Ho
  iapply Hk
  isplitl [Hx]
  · iexists f; isplitr; · ipureintro; trivial
    iexact Hx
  isplitl [Hr]
  · iexists g; isplitr; · ipureintro; trivial
    iexact Hr
  iexists _
  isplitr
  rotate_left
  · iexact Ho
  · ipureintro; exact vO_write s _ _

end Cert.KernelIdeal.Run

end
-- ==== Proof.Ideal.Exec.lean ====
/- The whole list of steps, run from the resources at the start to those at the end. -/
module

public import proofs.«01_k».proof.Proof.Ideal.Local

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-- The rows a neighbour's unit brings, by name. -/
theorem barPay_den (n : Nbr) : (barPay c n : sProp 𝕄) ⊢ denL m c ((xferTo n).map .rx) := denL_map m c Res.rx (xferTo n)

/-- One step, whichever it is. -/
theorem step_any (o : Op) (l : List Pay) (h : below o l = true)
    {α : Type} {Q : α → sProp 𝕄} {k : PUnit → Prog (TpuEff nD τ sig (Elt F) Λ₀ .tc) α} :
    iprop(ctx m K ∗ denL m c o.pre ∗ owes' (F := F) c (o.pays.toList ++ l))
      ⊢ iprop(((denL m c o.post ∗ owes' c l) -∗ wpc c (k ⟨⟩) Q) -∗ wpc c (o.run c >>= k) Q) := by
  cases o with
  | sgnl n =>
    show iprop(ctx m K ∗ (den m c (.give n) ∗ emp) ∗ owes' (F := F) c (.inl n :: l)) ⊢ iprop(((emp ∗ owes' c l) -∗ _) -∗ _)
    iintro ⟨#HC, ⟨H, -⟩, HO⟩ Hk
    iapply (step_sgnl m K c n l) $$ [H HO]
    · isplitr; · iexact HC
      isplitl [H] <;> iassumption
    iintro HO
    iapply Hk
    isplitr; · iempintro
    iexact HO
  | bar =>
    show iprop(ctx m K ∗ (den m c .posB ∗ emp) ∗ owes' (F := F) c l) ⊢ iprop(((denL m c (Op.post .bar) ∗ owes' c l) -∗ _) -∗ _)
    iintro ⟨#HC, ⟨H, -⟩, HO⟩ Hk
    iapply (step_bar m K c l (below_of rfl h)) $$ [H HO]
    · isplitr; · iexact HC
      isplitl [H] <;> iassumption
    iintro ⟨Hd, Hy, Hx, Hz, HO⟩
    iapply Hk
    isplitr [HO]
    · unfold Op.post denL
      isplitl [Hd]; · iexact Hd
      iapply (denL_append m c)
      isplitl [Hy]; · iapply (barPay_den m c .y); iexact Hy
      iapply (denL_append m c)
      isplitl [Hx]; · iapply (barPay_den m c .x); iexact Hx
      iapply (barPay_den m c .z); iexact Hz
    iexact HO
  | send t =>
    show iprop(ctx m K ∗ (den m c (.src t) ∗ den m c (.rx t) ∗ den m c (.tok t) ∗ emp) ∗ owes' (F := F) c (.inr t :: l))
      ⊢ iprop((((den m c (.credS t) ∗ emp) ∗ owes' c l) -∗ _) -∗ _)
    iintro ⟨#HC, ⟨H1, H2, H3, -⟩, HO⟩ Hk
    iapply (step_send m K c t l) $$ [H1 H2 H3 HO]
    · isplitr; · iexact HC
      isplitl [H1]; · iexact H1
      isplitl [H2]; · iexact H2
      isplitl [H3] <;> iassumption
    iintro ⟨Hc, HO⟩
    iapply Hk
    isplitl [Hc]
    · isplitl [Hc]; · iexact Hc
      iempintro
    iexact HO
  | waitR t =>
    show iprop(ctx m K ∗ (den m c (.posR t) ∗ emp) ∗ owes' (F := F) c l)
      ⊢ iprop((((den m c (.doneR t) ∗ denL m c (landed t)) ∗ owes' c l) -∗ _) -∗ _)
    iintro ⟨#HC, ⟨H, -⟩, HO⟩ Hk
    iapply (step_waitR m K c t l (below_of rfl h)) $$ [H HO]
    · isplitr; · iexact HC
      isplitl [H] <;> iassumption
    iintro ⟨Hd, Hp, HO⟩
    iapply Hk
    isplitr [HO]
    · isplitl [Hd]; · iexact Hd
      iapply (landed_den m c t); iexact Hp
    iexact HO
  | waitS t =>
    show iprop(ctx m K ∗ (den m c (.posS t) ∗ den m c (.credS t) ∗ emp) ∗ owes' (F := F) c l)
      ⊢ iprop((((den m c (.doneS t) ∗ emp) ∗ owes' c l) -∗ _) -∗ _)
    iintro ⟨#HC, ⟨H1, H2, -⟩, HO⟩ Hk
    iapply (step_waitS m K c t l (below_of rfl h)) $$ [H1 H2 HO]
    · isplitr; · iexact HC
      isplitl [H1]; · iexact H1
      isplitl [H2] <;> iassumption
    iintro ⟨Hd, HO⟩
    iapply Hk
    isplitl [Hd]
    · isplitl [Hd]; · iexact Hd
      iempintro
    iexact HO
  | ldx s q kk =>
    show iprop(ctx m K ∗ (den m c (.xT q kk) ∗ den m c (.bX s) ∗ den m c (.sem s 0) ∗ emp) ∗ owes' (F := F) c l)
      ⊢ iprop((((den m c (.flX s q kk) ∗ emp) ∗ owes' c l) -∗ _) -∗ _)
    iintro ⟨#HC, ⟨H1, H2, H3, -⟩, HO⟩ Hk
    iapply (step_ldx m c s q kk) $$ [H1 H2 H3]
    · isplitl [H1]; · iexact H1
      isplitl [H2] <;> iassumption
    iintro Hf
    iapply Hk
    isplitl [Hf]
    · isplitl [Hf]; · iexact Hf
      iempintro
    iexact HO
  | ldr s q kk =>
    show iprop(ctx m K ∗ (den m c (.got q (lo kk)) ∗ den m c (.got q (hi kk)) ∗ den m c (.bR s) ∗ den m c (.sem s 1) ∗ emp) ∗ owes' (F := F) c l)
      ⊢ iprop((((den m c (.flR s q kk) ∗ emp) ∗ owes' c l) -∗ _) -∗ _)
    iintro ⟨#HC, ⟨H1, H1', H2, H3, -⟩, HO⟩ Hk
    iapply (step_ldr m c s q kk) $$ [H1 H1' H2 H3]
    · isplitl [H1 H1']
      · isplitl [H1] <;> iassumption
      isplitl [H2] <;> iassumption
    iintro Hf
    iapply Hk
    isplitl [Hf]
    · isplitl [Hf]; · iexact Hf
      iempintro
    iexact HO
  | wldx s q kk =>
    show iprop(ctx m K ∗ (den m c (.flX s q kk) ∗ emp) ∗ owes' (F := F) c l)
      ⊢ iprop((((den m c (.lX s q kk) ∗ den m c (.sem s 0) ∗ emp) ∗ owes' c l) -∗ _) -∗ _)
    iintro ⟨#HC, ⟨H, -⟩, HO⟩ Hk
    iapply (step_wldx m K c s q kk l (below_of rfl h)) $$ [H HO]
    · isplitr; · iexact HC
      isplitl [H] <;> iassumption
    iintro ⟨H1, H2, HO⟩
    iapply Hk
    isplitr [HO]
    · isplitl [H1]; · iexact H1
      isplitl [H2]; · iexact H2
      iempintro
    iexact HO
  | wldr s q kk =>
    show iprop(ctx m K ∗ (den m c (.flR s q kk) ∗ emp) ∗ owes' (F := F) c l)
      ⊢ iprop((((den m c (.lR s q kk) ∗ den m c (.sem s 1) ∗ emp) ∗ owes' c l) -∗ _) -∗ _)
    iintro ⟨#HC, ⟨H, -⟩, HO⟩ Hk
    iapply (step_wldr m K c s q kk l (below_of rfl h)) $$ [H HO]
    · isplitr; · iexact HC
      isplitl [H] <;> iassumption
    iintro ⟨H1, H2, HO⟩
    iapply Hk
    isplitr [HO]
    · isplitl [H1]; · iexact H1
      isplitl [H2]; · iexact H2
      iempintro
    iexact HO
  | comp s q kk =>
    show iprop(ctx m K ∗ (den m c (.lX s q kk) ∗ den m c (.lR s q kk) ∗ den m c (.bO s) ∗ emp) ∗ owes' (F := F) c l)
      ⊢ iprop((((den m c (.bX s) ∗ den m c (.bR s) ∗ den m c (.sm s q kk) ∗ emp) ∗ owes' c l) -∗ _) -∗ _)
    iintro ⟨#HC, ⟨H1, H2, H3, -⟩, HO⟩ Hk
    iapply (step_comp m c s q kk) $$ [H1 H2 H3]
    · isplitl [H1]; · iexact H1
      isplitl [H2] <;> iassumption
    iintro ⟨H1, H2, H3⟩
    iapply Hk
    isplitr [HO]
    · isplitl [H1]; · iexact H1
      isplitl [H2]; · iexact H2
      isplitl [H3]; · iexact H3
      iempintro
    iexact HO
  | st s q kk =>
    show iprop(ctx m K ∗ (den m c (.sm s q kk) ∗ den m c (.oT q kk) ∗ den m c (.sem s 2) ∗ emp) ∗ owes' (F := F) c l)
      ⊢ iprop((((den m c (.flO s q kk) ∗ emp) ∗ owes' c l) -∗ _) -∗ _)
    iintro ⟨#HC, ⟨H1, H2, H3, -⟩, HO⟩ Hk
    iapply (step_st m c s q kk) $$ [H1 H2 H3]
    · isplitl [H1]; · iexact H1
      isplitl [H2] <;> iassumption
    iintro Hf
    iapply Hk
    isplitl [Hf]
    · isplitl [Hf]; · iexact Hf
      iempintro
    iexact HO
  | wst s q kk =>
    show iprop(ctx m K ∗ (den m c (.flO s q kk) ∗ emp) ∗ owes' (F := F) c l)
      ⊢ iprop((((den m c (.oD q kk) ∗ den m c (.bO s) ∗ den m c (.sem s 2) ∗ emp) ∗ owes' c l) -∗ _) -∗ _)
    iintro ⟨#HC, ⟨H, -⟩, HO⟩ Hk
    iapply (step_wst m K c s q kk l (below_of rfl h)) $$ [H HO]
    · isplitr; · iexact HC
      isplitl [H] <;> iassumption
    iintro ⟨⟨H1, H1'⟩, H2, HO⟩
    iapply Hk
    isplitr [HO]
    · isplitl [H1]; · iexact H1
      isplitl [H1']; · iexact H1'
      isplitl [H2]; · iexact H2
      iempintro
    iexact HO

/-- The payments of a list are those of its first step and those of the rest. -/
theorem pays_cons (o : Op) (os : List Op) : (o :: os).filterMap Op.pays = o.pays.toList ++ os.filterMap Op.pays := by
  rw [List.filterMap_cons]
  cases o.pays <;> rfl

/-- A legal list runs. -/
theorem runOps_sound (Kt : PUnit → sProp 𝕄) : ∀ (os : List Op) (S S' : List Res), legal os S = some S' →
    iprop(ctx m K ∗ denL m c S ∗ owes' (F := F) c (os.filterMap Op.pays))
      ⊢ iprop(((denL m c S' ∗ owes' c []) -∗ Kt ⟨⟩) -∗ wpc c (runOps c os) Kt)
  | [], S, S', h => by
    unfold legal at h; rw [Option.some.injEq] at h; subst h
    show iprop(ctx m K ∗ denL m c S ∗ owes' (F := F) c []) ⊢ iprop(_ -∗ wpc c (.ret ⟨⟩) Kt)
    unfold wpc; rw [wp_ret]
    iintro ⟨-, HS, HO⟩ Hk
    imodintro
    iapply Hk
    isplitl [HS] <;> iassumption
  | o :: os, S, S', h => by
    unfold legal at h
    cases hb : below o (os.filterMap Op.pays) with
    | false => rw [hb, cond_false] at h; exact absurd h (by simp)
    | true =>
      rw [hb, cond_true, Option.bind_eq_some_iff] at h
      obtain ⟨fr, h1, h2⟩ := h
      show iprop(ctx m K ∗ denL m c S ∗ owes' (F := F) c ((o :: os).filterMap Op.pays)) ⊢ iprop(_ -∗ wpc c (o.run c >>= fun _ => runOps c os) Kt)
      rw [pays_cons]
      iintro ⟨#HC, HS, HO⟩ Hk
      ihave HS := (takeAll_sound m c h1) $$ HS
      icases HS with ⟨Hpre, Hfr⟩
      iapply (step_any m K c o (os.filterMap Op.pays) hb) $$ [Hpre HO]
      · isplitr; · iexact HC
        isplitl [Hpre] <;> iassumption
      iintro ⟨Hpost, HO⟩
      iapply (runOps_sound Kt os (o.post ++ fr) S' h2) $$ [Hpost Hfr HO]
      · isplitr; · iexact HC
        isplitl [Hpost Hfr]
        · iapply (denL_append m c); isplitl [Hpost] <;> iassumption
        iexact HO
      iexact Hk

/-- The kernel's list, from the start to the end. -/
theorem allOps_sound (Kt : PUnit → sProp 𝕄) :
    iprop(ctx m K ∗ denL m c start ∗ owes' (F := F) c (allOps.filterMap Op.pays))
      ⊢ iprop(((denL m c finish_ ∗ owes' c []) -∗ Kt ⟨⟩) -∗ wpc c (runOps c allOps) Kt) := by
  have h := legal_all
  rw [Option.isSome_iff_exists] at h
  obtain ⟨fr, h⟩ := h
  rw [Option.bind_eq_some_iff] at h
  obtain ⟨S', h1, h2⟩ := h
  iintro H Hk
  iapply (runOps_sound m K c Kt allOps start S' h1) $$ H
  iintro ⟨HS, HO⟩
  ihave HS := (takeAll_sound m c h2) $$ HS
  icases HS with ⟨HS, -⟩
  iapply Hk
  isplitl [HS] <;> iassumption

end Cert.KernelIdeal.Run

end
-- ==== Proof.Ideal.Deal.lean ====
/- What the launch deals: the protocol's cells and tokens, allocated over all devices at once, the tokens handed to
   the devices that pay with them, and the credits that match what the devices owe. -/
module

public import proofs.«01_k».proof.Proof.Ideal.Exec
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## The semaphores -/

/-- The semaphore of a shared cell. -/
def ksem : Ci → SemLoc sig
  | .inl () => .reg barS
  | .inr (.inl t) => .dma t.semS
  | .inr (.inr t) => .dma t.semR
theorem kcell_eq (c : Dev nD) (k : Ci) : kcell (c, k) = ((c : Thread nD τ), ksem k) := by
  match k with
  | .inl () => rfl
  | .inr (.inl t) => rfl
  | .inr (.inr t) => rfl
theorem ksem_injective : Function.Injective ksem := by decide +kernel

theorem dev_of_cell {a b : Dev nD} {s s' : SemLoc sig} (h : (((a : Thread nD τ), s) : GSem nD τ sig) = ((b : Thread nD τ), s')) :
    a = b ∧ s = s' :=
  ⟨congrArg (fun g : GSem nD τ sig => g.1.1) h, congrArg Prod.snd h⟩

theorem kcell_injective : Function.Injective kcell := by
  rintro ⟨c, k⟩ ⟨c', k'⟩ h
  rw [kcell_eq, kcell_eq] at h
  obtain ⟨h1, h2⟩ := dev_of_cell h
  rw [h1, ksem_injective h2]

/-- The kernel's own semaphores: departures, arrivals, local copies. -/
def osem : (Xfer ⊕ Xfer) ⊕ (Fin 3 × Fin 3) → SemLoc sig
  | .inl k => ksem (.inr k)
  | .inr p => .dma (semL p.1 p.2)
theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The shared semaphores of a device at zero. -/
def zeros (c : Dev nD) : sProp 𝕄 := bigSep Finset.univ fun k : Ci => semVal (kcell (c, k)) 0
/-- Its local copies' semaphores at zero. -/
def locals (c : Dev nD) : sProp 𝕄 := bigSep Finset.univ fun p : Fin 3 × Fin 3 => semVal (locCell c p.1 p.2) 0

theorem bigSep_sum {A B : Type} [Fintype A] [Fintype B] (Φ : A ⊕ B → sProp 𝕄) : bigSep Finset.univ Φ
    = iprop((bigSep Finset.univ fun a => Φ (.inl a)) ∗ bigSep Finset.univ fun b => Φ (.inr b)) := BI.bigSep_univ_sum Φ
theorem bigSep_Ci (Φ : Ci → sProp 𝕄) : bigSep Finset.univ Φ
    = iprop(Φ (.inl ()) ∗ (bigSep Finset.univ fun t : Xfer => Φ (.inr (.inl t))) ∗ bigSep Finset.univ fun t : Xfer => Φ (.inr (.inr t))) := by
  rw [bigSep_sum, bigSep_sum, show (Finset.univ : Finset Unit) = {()} from rfl, bigSep_singleton]

theorem sems_split (c : Dev nD) :
    (iprop(Pipeline.ownSems0 (Ix := Unit) (Name := ℕ) (U := UU) (Lvl := ℕ) (Val := Elt F) (τ := τ) osem c ∗ unscopedSems0 c) : sProp 𝕄)
      ⊣⊢ iprop(zeros c ∗ locals c) := by
  unfold Pipeline.ownSems0 zeros locals
  rw [unscopedSems0_eq, bigSep_sum, bigSep_Ci, bigSep_sum]
  constructor
  · iintro ⟨⟨⟨H1, H2⟩, H3⟩, H4⟩
    isplitr [H3]
    · isplitl [H4]; · iexact H4
      isplitl [H1]; · iexact H1
      iexact H2
    · iexact H3
  · iintro ⟨⟨H4, H1, H2⟩, H3⟩
    isplitr [H4]
    · isplitl [H1 H2]
      · isplitl [H1]; · iexact H1
        iexact H2
      · iexact H3
    · iexact H4

/-! ## The cells and the tokens -/

/-- All cells of the protocol. -/
def cells : Finset (GSem nD τ sig) := Finset.univ.map ⟨kcell, kcell_injective⟩

/-- A device's tokens as made: three for its barrier, one for each departure and each arrival. -/
abbrev Tk : Type := Nbr ⊕ (Xfer ⊕ Xfer)
/-- Where a token belongs. -/
def tokOf : Dev nD × Tk → GSem nD τ sig × ℕ × Nbr
  | (c, .inl n) => (kcell (c, .inl ()), 0, n)
  | (c, .inr k) => (kcell (c, .inr k), 0, .y)
/-- Tokens belong to different places. -/
theorem tokOf_injective : Function.Injective tokOf := by
  rintro ⟨c, a⟩ ⟨c', a'⟩ h
  have h1 := congrArg Prod.fst h
  have h2 : (tokOf (c, a)).2.2 = (tokOf (c', a')).2.2 := by rw [h]
  cases a with
  | inl n =>
    cases a' with
    | inl n' =>
      have h1 : kcell (c, .inl ()) = kcell (c', .inl ()) := h1
      rw [show n = n' from h2, (Prod.mk.inj (kcell_injective h1)).1]
    | inr k' =>
      have h1 : kcell (c, .inl ()) = kcell (c', .inr k') := h1
      exact absurd (Prod.mk.inj (kcell_injective h1)).2 (by simp)
  | inr k =>
    cases a' with
    | inl n' =>
      have h1 : kcell (c, .inr k) = kcell (c', .inl ()) := h1
      exact absurd (Prod.mk.inj (kcell_injective h1)).2 (by simp)
    | inr k' =>
      have h1 : kcell (c, .inr k) = kcell (c', .inr k') := h1
      obtain ⟨e, e'⟩ := Prod.mk.inj (kcell_injective h1)
      rw [e, Sum.inr.inj e']
/-- All tokens. -/
def toks0 : Finset (GSem nD τ sig × ℕ × Nbr) := Finset.univ.map ⟨tokOf, tokOf_injective⟩

def u₀ : UU := (initOf (Pipeline.cells cfgs cellOf_inj) (Pipeline.launchToks cfgs cellOf_inj), (initOf cells toks0, 1))

/-- The first element of the algebra is one part for the pipeline and one for the protocol. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's cells. -/
def toks (c : Dev nD) : sProp 𝕄 :=
  iprop((bigSep Finset.univ fun n : Nbr => dutyTok ER (barCell c) 0 n)
    ∗ (bigSep Finset.univ fun t : Xfer => dutyTok ER (sndCell c t) 0 .y) ∗ bigSep Finset.univ fun t : Xfer => dutyTok ER (rcvCell c t) 0 .y)
/-- The tokens a device pays with. -/
def payToks (c : Dev nD) : sProp 𝕄 :=
  iprop((bigSep Finset.univ fun n : Nbr => dutyTok ER (barCell (nbr n c)) 0 n)
    ∗ (bigSep Finset.univ fun t : Xfer => dutyTok ER (sndCell c t) 0 .y)
    ∗ bigSep Finset.univ fun t : Xfer => dutyTok ER (rcvCell (nbr t.nbr c) t) 0 .y)
/-- A device's places in the protocol. -/
def places (R : ℕ) (c : Dev nD) : sProp 𝕄 := bigSep Finset.univ fun k : Ci => atPos ER (kcell (c, k)) R ∅ 0

/-- The tokens of all cells, dealt to the devices that pay with them. -/
theorem toks_around : (bigSep Finset.univ fun c : Dev nD => (toks c : sProp 𝕄)) ⊢ bigSep Finset.univ fun c : Dev nD => payToks c := by
  have e1 : (bigSep Finset.univ fun c : Dev nD => bigSep Finset.univ fun n : Nbr => (dutyTok ER (barCell c) 0 n : sProp 𝕄))
      = bigSep Finset.univ fun c : Dev nD => bigSep Finset.univ fun n : Nbr => dutyTok ER (barCell (nbr n c)) 0 n := by
    rw [Pipeline.bigSep_univ_comm, Pipeline.bigSep_univ_comm (fun c n => (dutyTok ER (barCell (nbr n c)) 0 n : sProp 𝕄))]
    exact bigSep_congr fun n _ => bigSep_univ_equiv (nbrEquiv n) _
  have e2 : (bigSep Finset.univ fun c : Dev nD => bigSep Finset.univ fun t : Xfer => (dutyTok ER (rcvCell c t) 0 .y : sProp 𝕄))
      = bigSep Finset.univ fun c : Dev nD => bigSep Finset.univ fun t : Xfer => dutyTok ER (rcvCell (nbr t.nbr c) t) 0 .y := by
    rw [Pipeline.bigSep_univ_comm, Pipeline.bigSep_univ_comm (fun c t => (dutyTok ER (rcvCell (nbr (Xfer.nbr t) c) t) 0 .y : sProp 𝕄))]
    exact bigSep_congr fun t _ => bigSep_univ_equiv (nbrEquiv t.nbr) _
  unfold toks payToks
  rw [bigSep_sep', bigSep_sep', bigSep_sep', bigSep_sep', e1, e2]

variable (m : (ℓ : Loc nD τ sig) → Buf (Elt F) ℓ)

/-- What the first element of the algebra gives a device. -/
def G (c : Dev nD) : sProp 𝕄 :=
  iprop((bigSep Finset.univ fun k : Ci => roundState ER (Rd m) (kcell (c, k)) 0)
    ∗ (bigSep Finset.univ fun k : Ci => reached ER (kcell (c, k)) 0) ∗ places 0 c ∗ toks c)

/-- The first element of the protocol gives every device its part. -/
theorem fund_cells : BI.own (ER (initOf cells toks0)) ⊢ (|==> bigSep Finset.univ (G m) : sProp 𝕄) := by
  have hX (Φ : GSem nD τ sig → sProp 𝕄) : bigSep cells Φ = bigSep Finset.univ fun c : Dev nD => bigSep Finset.univ fun k : Ci => Φ (kcell (c, k)) := by
    unfold cells; rw [bigSep_map, bigSep_univ_prod]; rfl
  have hT : bigSep toks0 (fun x => (dutyTok ER x.1 x.2.1 x.2.2 : sProp 𝕄)) = bigSep Finset.univ fun c : Dev nD => toks c := by
    unfold toks0; rw [bigSep_map, bigSep_univ_prod]
    exact bigSep_congr fun c _ => by unfold toks; rw [bigSep_univ_sum, bigSep_univ_sum]; rfl
  iintro HX
  imod (Rounds.fund ER (Rd m) cells toks0) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat'] <;> iassumption

/-! ## The allocation over all devices -/

/-- What a device goes on with. -/
def G' (c : Dev nD) : sProp 𝕄 := iprop((∃ K, records m K) ∗ places 0 c ∗ payToks c ∗ locals c)

/-- A device's semaphores and first states become the cells of the protocol. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => reached ER (kcell (c, k)) 0) ∗ toks c ∗ places 0 c ∗ locals c) := by
  unfold G
  iintro ⟨Hos, Hus, Hst, Hr, Hat, Htok⟩
  ihave Hv := (sems_split (F := F) c).1 $$ [Hos Hus]
  · isplitl [Hos] <;> iassumption
  icases Hv with ⟨Hv, Hloc⟩
  imod (show iprop(zeros c ∗ bigSep Finset.univ fun k : Ci => roundState ER (Rd m) (kcell (c, k)) 0)
      ⊢ (|={Set.univ}=> bigSep Finset.univ fun k => iprop(∃ κ : ℕ, cellInv ER (Rd m) κ (kcell (c, k))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- A fact that can be copied helps at every index. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells of all devices, recorded once and known to every device. -/
theorem regroup :
    (bigSep Finset.univ fun c : Dev nD => iprop((bigSep Finset.univ fun k => iprop(∃ κ : ℕ, cellInv ER (Rd m) κ (kcell (c, k))))
          ∗ (bigSep Finset.univ fun k => reached ER (kcell (c, k)) 0) ∗ toks c ∗ places 0 c ∗ locals c) : sProp 𝕄)
      ⊢ bigSep Finset.univ (G' m) := by
  rw [bigSep_sep', bigSep_sep', bigSep_sep', bigSep_sep', ← bigSep_univ_prod (fun p : Dev nD × Ci => iprop(∃ κ : ℕ, cellInv ER (Rd m) κ (kcell p))),
    ← bigSep_univ_prod (fun p : Dev nD × Ci => (reached ER (kcell p) 0 : sProp 𝕄))]
  iintro ⟨HI, Hr, Htok, Hrest⟩
  ihave HK := (BI.bigSep_exists_pi Finset.univ (fun (p : Dev nD × Ci) (κ : ℕ) => (cellInv ER (Rd m) κ (kcell p) : sProp 𝕄))) $$ HI
  icases HK with ⟨%K, HI⟩
  ihave Htk := (toks_around (F := F)) $$ Htok
  ihave #HR := (show iprop((bigSep Finset.univ fun p : Dev nD × Ci => (cellInv ER (Rd m) (K p) (kcell p) : sProp 𝕄))
      ∗ bigSep Finset.univ fun p : Dev nD × Ci => (reached ER (kcell p) 0 : sProp 𝕄)) ⊢ records m K from by
    unfold records record; rw [bigSep_sep']) $$ [HI Hr]
  · isplitl [HI] <;> iassumption
  iapply (with_persistent (R := records m K) (Φ := fun c => iprop(payToks c ∗ places 0 c ∗ locals c)) fun c _ => by
    unfold G'
    iintro ⟨#HR, H1, H2, H3⟩
    isplitr; · iexists K; iexact HR
    isplitl [H2]; · iexact H2
    isplitl [H1] <;> iassumption)
  isplitr; · iexact HR
  iapply (show iprop((bigSep Finset.univ fun c : Dev nD => (payToks c : sProp 𝕄))
      ∗ (bigSep Finset.univ fun c : Dev nD => (places 0 c : sProp 𝕄)) ∗ bigSep Finset.univ fun c : Dev nD => (locals c : sProp 𝕄))
      ⊢ bigSep Finset.univ fun c => iprop(payToks c ∗ places 0 c ∗ locals c) from by rw [bigSep_sep', bigSep_sep'])
  isplitl [Htk]; · iexact Htk
  iexact Hrest

/-- The allocation over all devices gives each what it goes on with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a device owes when it starts. -/
def O₀ (c : Dev nD) : CellTallies nD τ sig Unit := owedL c (allOps.filterMap Op.pays)

/-- No payment is made twice. -/
theorem pays_nodup : (allOps.filterMap Op.pays).Nodup := by decide +kernel
/-- Every payment is made. -/
theorem pays_univ : (allOps.filterMap Op.pays).toFinset = (Finset.univ : Finset Pay) := by decide +kernel

/-- What a device owes at a cell is the sum of all payments there. -/
theorem O₀_at (d : Dev nD) (g : GSem nD τ sig) : O₀ d g () = ∑ p : Pay, payTally d p g () := by
  unfold O₀ owedL
  rw [← List.sum_toFinset _ pays_nodup, pays_univ, Finset.sum_apply, Finsupp.finset_sum_apply]

/-- Being a neighbour goes both ways. -/
theorem nbr_eq {n : Nbr} {c d : Dev nD} : Iff (c = nbr n d) (d = nbr n c) :=
  ⟨fun h => by rw [h, nbr_nbr], fun h => by rw [h, nbr_nbr]⟩

theorem owe_bar_n (d c : Dev nD) (n : Nbr) : payTally d (.inl n) (barCell c) () = if d = nbr n c then 1 else 0 := by
  show tallyAt (barCell (nbr n d)) () 1 (barCell c) () = _
  rw [tallyAt_apply]
  by_cases h : d = nbr n c
  · rw [if_pos h, if_pos]; exact ⟨by rw [h, nbr_nbr], rfl⟩
  · rw [if_neg h, if_neg]; rintro ⟨h', -⟩; exact h (nbr_eq.mp (dev_of_cell h').1)
theorem owe_bar_t (d c : Dev nD) (t : Xfer) : payTally d (.inr t) (barCell c) () = 0 := by
  show tallyAt (rcvCell (nbr t.nbr d) t) () N (barCell c) () = _
  rw [tallyAt_apply, if_neg]; rintro ⟨h', -⟩; exact absurd (dev_of_cell h').2 (by simp)
theorem owe_rcv_n (d c : Dev nD) (t : Xfer) (n : Nbr) : payTally d (.inl n) (rcvCell c t) () = 0 := by
  show tallyAt (barCell (nbr n d)) () 1 (rcvCell c t) () = _
  rw [tallyAt_apply, if_neg]; rintro ⟨h', -⟩; exact absurd (dev_of_cell h').2 (by simp)
theorem owe_rcv_t (d c : Dev nD) (t t' : Xfer) :
    payTally d (.inr t') (rcvCell c t) () = if t' = t then (if d = nbr t.nbr c then N else 0) else 0 := by
  show tallyAt (rcvCell (nbr t'.nbr d) t') () N (rcvCell c t) () = _
  rw [tallyAt_apply]
  by_cases ht : t' = t
  · subst ht
    rw [if_pos rfl]
    by_cases h : d = nbr t'.nbr c
    · rw [if_pos h, if_pos]; exact ⟨by rw [h, nbr_nbr], rfl⟩
    · rw [if_neg h, if_neg]; rintro ⟨h', -⟩; exact h (nbr_eq.mp (dev_of_cell h').1)
  · rw [if_neg ht, if_neg]; rintro ⟨h', -⟩
    have h2 : ksem (.inr (.inr t)) = ksem (.inr (.inr t')) := (dev_of_cell h').2
    exact ht (Sum.inr.inj (Sum.inr.inj (ksem_injective h2))).symm

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_at d (barCell c), Finset.sum_comm,
    Fintype.sum_sum_type, Finset.sum_eq_zero (fun t _ => Finset.sum_eq_zero fun d _ => owe_bar_t d c t), Nat.add_zero,
    Finset.sum_congr rfl fun n _ => (Finset.sum_congr rfl fun d _ => owe_bar_n d c n).trans
      ((Finset.sum_ite_eq' Finset.univ (nbr n c) fun _ => 1).trans (if_pos (Finset.mem_univ _)))]
  rfl

theorem launch_rcv (c : Dev nD) (t : Xfer) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => O₀_at d (rcvCell c t)]
  have h (d : Dev nD) : ∑ p : Pay, payTally d p (rcvCell c t) () = if d = nbr t.nbr c then N else 0 := by
    rw [Fintype.sum_sum_type, Finset.sum_eq_zero (fun n _ => owe_rcv_n d c t n), Nat.zero_add,
      Finset.sum_congr rfl fun t' _ => owe_rcv_t d c t t', Finset.sum_ite_eq' Finset.univ t fun _ => _, if_pos (Finset.mem_univ _)]
  rw [Finset.sum_congr rfl fun d _ => h d, Finset.sum_ite_eq' Finset.univ (nbr t.nbr c) fun _ => N, if_pos (Finset.mem_univ _)]

/-- The credits a device waits with. -/
def creds (c : Dev nD) : sProp 𝕄 :=
  iprop(cred (tallyAt (barCell c) () 3) ∗ bigSep Finset.univ fun t : Xfer => cred (tallyAt (rcvCell c t) () N))

theorem creds_intro (c : Dev nD) : (Pipeline.launchCred O₀ c : sProp 𝕄) ⊢ creds c := by
  unfold Pipeline.launchCred creds
  refine (BI.bigSep_subset (Finset.subset_univ (Finset.univ.map ⟨ksem, ksem_injective⟩))).trans ?_
  rw [bigSep_map, bigSep_Ci]
  refine (show (iprop(cred (tallyOn (barCell c) (launchCredit (Pipeline.owing O₀) 0 (barCell c)))
      ∗ (bigSep Finset.univ fun t : Xfer => cred (tallyOn (sndCell c t) (launchCredit (Pipeline.owing O₀) 0 (sndCell c t))))
      ∗ bigSep Finset.univ fun t : Xfer => cred (tallyOn (rcvCell c t) (launchCredit (Pipeline.owing O₀) 0 (rcvCell c t)))) : sProp 𝕄) ⊢ _ from ?_)
  rw [launch_bar, bigSep_congr (s := Finset.univ) fun (t : Xfer) _ => congrArg cred (launch_rcv c t)]
  iintro ⟨H1, -, H2⟩
  isplitl [H1] <;> iassumption

end Cert.KernelIdeal.Run

end
-- ==== Proof.Ideal.Parts.lean ====
/- The arrays and buffers a device holds at the launch, cut into the pieces the steps name; and the pieces left at
   the end, put together again. -/
module

public import proofs.«01_k».proof.Proof.Ideal.Deal

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## Families and lists of names -/

theorem univ_N : (Finset.univ : Finset Nbr) = [Nbr.y, .x, .z].toFinset := by decide
theorem univ_2 : (Finset.univ : Finset (Fin 3 × Fin 3)) = sets2.toFinset := by decide +kernel
theorem nodup_2 : sets2.Nodup := by decide +kernel
theorem univ_T : (Finset.univ : Finset (Quarter × Fin 8)) = allT.toFinset := by decide +kernel
theorem nodup_T : allT.Nodup := by decide +kernel
theorem nodup_D : directs.Nodup := by decide +kernel
theorem univ_to : (Finset.univ : Finset Xfer) = (xferTo .y ++ (xferTo .x ++ xferTo .z)).toFinset := by decide +kernel
theorem nodup_to : (xferTo .y ++ (xferTo .x ++ xferTo .z)).Nodup := by decide +kernel

variable (m : (ℓ : Loc nD τ sig) → Buf (Elt F) ℓ) (c : Dev nD)

theorem to_den {I : Type} [Fintype I] [DecidableEq I] {l : List I} (h : Finset.univ = l.toFinset) (hl : l.Nodup) (g : I → Res) :
    (bigSep Finset.univ fun i => den m c (g i)) ⊢ denL m c (l.map g) :=
  (Entails.of_eq (bigSep_univ_eq_bigSepL l h hl _)).trans (denL_map m c g l)
theorem of_den {I : Type} [Fintype I] [DecidableEq I] {l : List I} (h : Finset.univ = l.toFinset) (hl : l.Nodup) (g : I → Res) :
    denL m c (l.map g) ⊢ bigSep Finset.univ fun i => den m c (g i) :=
  (denL_of m c g l).trans (Entails.of_eq (bigSep_univ_eq_bigSepL l h hl _).symm)

theorem den_one (r : Res) : den m c r ⊢ denL m c [r] := by
  show _ ⊢ iprop(den m c r ∗ emp)
  iintro H; isplitl [H]; · iexact H
  iempintro
theorem one_den (r : Res) : denL m c [r] ⊢ den m c r := by
  show iprop(den m c r ∗ emp) ⊢ _
  iintro ⟨H, -⟩; iexact H

/-! ## The input -/

theorem direct_inj (t t' : Xfer) (h : t.direct = true) (h' : t'.direct = true)
    (e : cidx t.srcQ c t.chunk = cidx t'.srcQ c t'.chunk) : t = t' := by
  revert c t t'; decide +kernel

theorem xs_chunks : (xPt c Finset.univ (part 1) (xs m c) : sProp 𝕄) ⊢ denL m c (directs.map .src) := by
  have hd : ∀ t ∈ directs, t.direct = true := fun t ht => by have := (List.mem_filter.mp ht).2; simpa using this
  have h1 : (xPt c Finset.univ (part 1) (xs m c) : sProp 𝕄)
      ⊢ xPt c (directs.toFinset.biUnion fun t => chunkSet (cidx t.srcQ c t.chunk)) (part 1) (xs m c) := by
    unfold xPt; exact (pointsTo_split_subset (Finset.subset_univ _)).1.trans (by iintro ⟨H, -⟩; iexact H)
  refine h1.trans ?_
  unfold xPt
  rw [pointsTo_biUnion _ _ fun t ht t' ht' hne => chunk_disjoint fun e =>
      hne (direct_inj c t t' (hd t (List.mem_toFinset.mp ht)) (hd t' (List.mem_toFinset.mp ht')) e),
    bigSep_eq_bigSepL_of_eq directs rfl nodup_D]
  refine (bigSepL_mono fun t ht => ?_).trans (denL_map m c Res.src directs)
  show _ ⊢ (bif t.direct then _ else _)
  rw [hd t ht]; exact BI.Entails.refl _

theorem tiles_disjoint (p p' : Quarter × Fin 8) (h : p ≠ p') : Disjoint (tileSet (bidx p.1 c p.2)) (tileSet (bidx p'.1 c p'.2)) :=
  tile_disjoint fun e => h (Prod.ext (bidx_inj c _ _ _ _ e).1 (bidx_inj c _ _ _ _ e).2)

theorem xs_tiles : (xPt c Finset.univ (part 2) (xs m c) : sProp 𝕄) ⊢ denL m c (allT.map fun p => .xT p.1 p.2) := by
  unfold xPt
  rw [← tile_univ c, pointsTo_biUnion _ _ fun p _ p' _ h => tiles_disjoint c p p' h]
  refine (bigSep_mono fun p _ => ?_).trans (to_den m c univ_T nodup_T _)
  unfold den xPt; exact BI.Entails.refl _

/-! ## The result -/

theorem oT_intro (q : Quarter) (k : Fin 8) (f : Pos → Elt F .f32) : (oPt c (tileSet (bidx q c k)) fullShare f : sProp 𝕄) ⊢ den m c (.oT q k) := by
  show _ ⊢ iprop(∃ f, oPt c (tileSet (bidx q c k)) fullShare f)
  iintro H; iexists f; iexact H

theorem os_tiles (f : Pos → Elt F .f32) : (oPt c Finset.univ fullShare f : sProp 𝕄) ⊢ denL m c (allT.map fun p => .oT p.1 p.2) := by
  unfold oPt
  rw [← tile_univ c, pointsTo_biUnion _ _ fun p _ p' _ h => tiles_disjoint c p p' h]
  refine (bigSep_mono fun p _ => ?_).trans (to_den m c univ_T nodup_T _)
  exact oT_intro m c p.1 p.2 f

theorem od_whole : (denL m c (allT.map fun p => .oD p.1 p.2) : sProp 𝕄) ⊢ oPt c Finset.univ fullShare (res m c) := by
  refine (of_den m c univ_T nodup_T _).trans ?_
  unfold oPt
  rw [← tile_univ c, pointsTo_biUnion _ _ fun p _ p' _ h => tiles_disjoint c p p' h]
  refine bigSep_mono fun p _ => ?_
  unfold den outD oPt; exact BI.Entails.refl _

/-! ## The landing array -/

/-- The rows the arrival of `t` fills. -/
def home (t : Xfer) : sProp 𝕄 := iprop(∃ f : Pos → Elt F .f32, rPt c (chunkSet (inIdx c t)) fullShare f)

/-- Whole rows of the landing array, whatever they hold, are a home. -/
theorem home_intro (t : Xfer) (f : Pos → Elt F .f32) : (rPt c (chunkSet (inIdx c t)) fullShare f : sProp 𝕄) ⊢ home c t := by
  unfold home; iintro H; iexists f; iexact H

/-- The landing array is the homes of all arrivals. -/
theorem rs_chunks (f : Pos → Elt F .f32) : (rPt c Finset.univ fullShare f : sProp 𝕄) ⊢ bigSep Finset.univ (home c) := by
  unfold rPt
  rw [← in_univ c, pointsTo_biUnion _ _ fun t _ t' _ h => chunk_disjoint fun e => h (in_inj c t t' e)]
  refine bigSep_mono fun t _ => ?_
  exact home_intro c t f

/-- A home for an arrival from a neighbour is that neighbour's place to write. -/
theorem home_rx (n : Nbr) (t : Xfer) (h : t ∈ xferTo n) : (home c t : sProp 𝕄) ⊢ rx (nbr n c) t := by
  have e := mem_xferTo h
  subst e
  unfold home rx
  rw [nbr_nbr, cidx_src]

/-- All transfers, by the neighbour they go to. -/
theorem homes (Φ : Xfer → sProp 𝕄) : bigSep Finset.univ Φ ⊢ iprop(bigSepL (xferTo .y) Φ ∗ bigSepL (xferTo .x) Φ ∗ bigSepL (xferTo .z) Φ) := by
  rw [bigSep_univ_eq_bigSepL _ univ_to nodup_to, bigSepL_append, bigSepL_append]

/-- The homes of the arrivals from a neighbour are what that neighbour is paid at the barrier. -/
theorem barPay_intro (n : Nbr) : (bigSepL (xferTo n) (home c) : sProp 𝕄) ⊢ barPay (nbr n c) n := by
  unfold barPay; exact bigSepL_mono fun t ht => home_rx c n t ht

/-- The barrier tokens and the homes are all that the three signals hand over. -/
theorem give_all : (iprop((bigSep Finset.univ fun n : Nbr => dutyTok ER (barCell (nbr n c)) 0 n) ∗ bigSep Finset.univ (home c)) : sProp 𝕄)
    ⊢ denL m c ([Nbr.y, .x, .z].map .give) := by
  refine (show _ ⊢ (bigSep Finset.univ fun n => den m c (.give n) : sProp 𝕄) from ?_).trans (to_den m c univ_N (by decide) _)
  iintro ⟨Ht, Hh⟩
  iapply (show iprop((bigSep Finset.univ fun n : Nbr => (dutyTok ER (barCell (nbr n c)) 0 n : sProp 𝕄)) ∗ bigSep Finset.univ fun n : Nbr => barPay (nbr n c) n)
      ⊢ (bigSep Finset.univ fun n => den m c (.give n) : sProp 𝕄) from by rw [← bigSep_sep']; exact BI.Entails.refl _)
  isplitl [Ht]; · iexact Ht
  iapply (show iprop(bigSepL (xferTo .y) (home c) ∗ bigSepL (xferTo .x) (home c) ∗ bigSepL (xferTo .z) (home c))
      ⊢ (bigSep Finset.univ fun n : Nbr => barPay (nbr n c) n : sProp 𝕄) from by
    rw [bigSep_univ_eq_bigSepL _ univ_N (by decide), bigSepL_cons_cons, bigSepL_cons_cons, bigSepL_singleton]
    refine (show _ ⊢ iprop(barPay (nbr .y c) .y ∗ barPay (nbr .x c) .x ∗ barPay (nbr .z c) .z) from ?_)
    iintro ⟨H1, H2, H3⟩
    isplitl [H1]; · iapply (barPay_intro c .y); iexact H1
    isplitl [H2]; · iapply (barPay_intro c .x); iexact H2
    iapply (barPay_intro c .z); iexact H3)
  iapply (homes (home c)); iexact Hh

/-! ## The buffers -/

/-- A whole buffer at the start. -/
theorem buf_in (v : Memref sig .tc .vmem S1024x1024 .f32) (h : v.view.set = Finset.univ) {r : Res} (e : den m c r = buf c v fun _ => True) :
    (iprop(∃ f : Buf (Elt F) (v.view.loc (c : Thread nD τ)), (v.view.loc (c : Thread nD τ)) ↦{fullShare} f) : sProp 𝕄) ⊢ den m c r := by
  rw [e]; unfold buf; rw [h]
  iintro ⟨%f, H⟩
  iexists f
  isplitr; · ipureintro; trivial
  iexact H
/-- A whole buffer at the end. -/
theorem buf_out (v : Memref sig .tc .vmem S1024x1024 .f32) (h : v.view.set = Finset.univ) {r : Res} (e : den m c r = buf c v fun _ => True) :
    den m c r ⊢ (iprop(∃ f : Buf (Elt F) (v.view.loc (c : Thread nD τ)), (v.view.loc (c : Thread nD τ)) ↦{fullShare} f) : sProp 𝕄) := by
  rw [e]; unfold buf; rw [h]
  iintro ⟨%f, -, H⟩
  iexists f
  iexact H

/-- The three sets of buffers. -/
def bufs : sProp 𝕄 := iprop(denL m c (sets.map .bX) ∗ denL m c (sets.map .bR) ∗ denL m c (sets.map .bO))

/-- The buffers of the kernel at the start. -/
theorem bufs_in : (Pipeline.scopedRest cfg0.spec c : sProp 𝕄) ⊢ bufs m c := by
  rw [scopedRest0_eq]
  show _ ⊢ iprop((den m c (.bX 0) ∗ den m c (.bX 1) ∗ den m c (.bX 2) ∗ emp) ∗ (den m c (.bR 0) ∗ den m c (.bR 1) ∗ den m c (.bR 2) ∗ emp)
    ∗ (den m c (.bO 0) ∗ den m c (.bO 1) ∗ den m c (.bO 2) ∗ emp))
  iintro ⟨H0, H1, H2, H3, H4, H5, H6, H7, H8⟩
  isplitl [H0 H3 H6]
  · isplitl [H0]; · iapply (buf_in m c (vX 0) (vX_univ 0) (r := .bX 0) rfl); iexact H0
    isplitl [H3]; · iapply (buf_in m c (vX 1) (vX_univ 1) (r := .bX 1) rfl); iexact H3
    isplitl [H6]; · iapply (buf_in m c (vX 2) (vX_univ 2) (r := .bX 2) rfl); iexact H6
    iempintro
  isplitl [H1 H4 H7]
  · isplitl [H1]; · iapply (buf_in m c (vR 0) (vR_univ 0) (r := .bR 0) rfl); iexact H1
    isplitl [H4]; · iapply (buf_in m c (vR 1) (vR_univ 1) (r := .bR 1) rfl); iexact H4
    isplitl [H7]; · iapply (buf_in m c (vR 2) (vR_univ 2) (r := .bR 2) rfl); iexact H7
    iempintro
  · isplitl [H2]; · iapply (buf_in m c (vO 0) (vO_univ 0) (r := .bO 0) rfl); iexact H2
    isplitl [H5]; · iapply (buf_in m c (vO 1) (vO_univ 1) (r := .bO 1) rfl); iexact H5
    isplitl [H8]; · iapply (buf_in m c (vO 2) (vO_univ 2) (r := .bO 2) rfl); iexact H8
    iempintro

/-- The buffers of the kernel at the end. -/
theorem bufs_out : bufs m c ⊢ (Pipeline.scopedRest cfg0.spec c : sProp 𝕄) := by
  rw [scopedRest0_eq]
  show iprop((den m c (.bX 0) ∗ den m c (.bX 1) ∗ den m c (.bX 2) ∗ emp) ∗ (den m c (.bR 0) ∗ den m c (.bR 1) ∗ den m c (.bR 2) ∗ emp)
    ∗ (den m c (.bO 0) ∗ den m c (.bO 1) ∗ den m c (.bO 2) ∗ emp)) ⊢ _
  iintro ⟨⟨H0, H3, H6, -⟩, ⟨H1, H4, H7, -⟩, ⟨H2, H5, H8, -⟩⟩
  isplitl [H0]; · iapply (buf_out m c (vX 0) (vX_univ 0) (r := .bX 0) rfl); iexact H0
  isplitl [H1]; · iapply (buf_out m c (vR 0) (vR_univ 0) (r := .bR 0) rfl); iexact H1
  isplitl [H2]; · iapply (buf_out m c (vO 0) (vO_univ 0) (r := .bO 0) rfl); iexact H2
  isplitl [H3]; · iapply (buf_out m c (vX 1) (vX_univ 1) (r := .bX 1) rfl); iexact H3
  isplitl [H4]; · iapply (buf_out m c (vR 1) (vR_univ 1) (r := .bR 1) rfl); iexact H4
  isplitl [H5]; · iapply (buf_out m c (vO 1) (vO_univ 1) (r := .bO 1) rfl); iexact H5
  isplitl [H6]; · iapply (buf_out m c (vX 2) (vX_univ 2) (r := .bX 2) rfl); iexact H6
  isplitl [H7]; · iapply (buf_out m c (vR 2) (vR_univ 2) (r := .bR 2) rfl); iexact H7
  iapply (buf_out m c (vO 2) (vO_univ 2) (r := .bO 2) rfl); iexact H8

/-! ## The start and the end -/

/-- What a device holds of the arrays when its kernel starts. -/
def arrays : sProp 𝕄 :=
  iprop(xPt c Finset.univ (part 1) (xs m c) ∗ xPt c Finset.univ (part 2) (xs m c)
    ∗ (∃ f, oPt c Finset.univ fullShare f) ∗ ∃ f, rPt c Finset.univ fullShare f)

/-- What a device holds when its kernel starts is what the starting names stand for. -/
theorem start_den : (iprop(arrays m c ∗ places 0 c ∗ payToks c ∗ locals c ∗ creds c ∗ bufs m c) : sProp 𝕄) ⊢ denL m c start := by
  unfold arrays payToks creds bufs start places
  rw [bigSep_Ci]
  iintro ⟨⟨Hx1, Hx2, ⟨%fo, Ho⟩, ⟨%fr, Hr⟩⟩, ⟨HpB, HpS, HpR⟩, ⟨HtB, HtS, HtR⟩, Hl, ⟨HcB, HcR⟩, HbX, HbR, HbO⟩
  iapply (denL_append m c); isplitl [Hx1]; · iapply (xs_chunks m c); iexact Hx1
  iapply (denL_append m c); isplitl [HtS HtR]
  · iapply (to_den m c univ_X nodup_X Res.tok)
    iapply (show iprop((bigSep Finset.univ fun t : Xfer => (dutyTok ER (sndCell c t) 0 .y : sProp 𝕄))
        ∗ bigSep Finset.univ fun t : Xfer => dutyTok ER (rcvCell (nbr t.nbr c) t) 0 .y) ⊢ (bigSep Finset.univ fun t => den m c (.tok t) : sProp 𝕄) from by
      rw [← bigSep_sep']; exact BI.Entails.refl _)
    isplitl [HtS] <;> iassumption
  iapply (denL_append m c); isplitl [HpS]; · iapply (to_den m c univ_X nodup_X Res.posS); iexact HpS
  iapply (denL_append m c); isplitl [HpR HcR]
  · iapply (to_den m c univ_X nodup_X Res.posR)
    iapply (show iprop((bigSep Finset.univ fun t : Xfer => (atPos ER (rcvCell c t) 0 ∅ 0 : sProp 𝕄))
        ∗ bigSep Finset.univ fun t : Xfer => cred (tallyAt (rcvCell c t) () N)) ⊢ (bigSep Finset.univ fun t => den m c (.posR t) : sProp 𝕄) from by
      rw [← bigSep_sep']; exact BI.Entails.refl _)
    isplitl [HpR]; · iexact HpR
    iexact HcR
  iapply (denL_append m c); isplitl [HtB Hr]
  · iapply (give_all m c)
    isplitl [HtB]; · iexact HtB
    iapply (rs_chunks c fr); iexact Hr
  iapply (denL_append m c); isplitl [HpB HcB]
  · iapply (den_one m c .posB)
    unfold den
    isplitl [HpB]; · iexact HpB
    iexact HcB
  iapply (denL_append m c); isplitl [Hl]
  · iapply (show (locals c : sProp 𝕄) ⊢ denL m c (sets2.map fun p => Res.sem p.1 p.2) from to_den m c univ_2 nodup_2 fun p => Res.sem p.1 p.2); iexact Hl
  iapply (denL_append m c); isplitl [HbX]; · iexact HbX
  iapply (denL_append m c); isplitl [HbR]; · iexact HbR
  iapply (denL_append m c); isplitl [HbO]; · iexact HbO
  iapply (denL_append m c); isplitl [Hx2]; · iapply (xs_tiles m c); iexact Hx2
  iapply (os_tiles m c fo); iexact Ho

theorem finish_den : (denL m c finish_ : sProp 𝕄) ⊢ iprop(places (0 + 1) c ∗ locals c ∗ bufs m c ∗ oPt c Finset.univ fullShare (res m c)) := by
  unfold bufs finish_ places
  rw [bigSep_Ci]
  iintro H
  ihave H := (denL_split m c _ _) $$ H; icases H with ⟨HS, H⟩
  ihave H := (denL_split m c _ _) $$ H; icases H with ⟨HR, H⟩
  ihave H := (denL_split m c _ _) $$ H; icases H with ⟨HB, H⟩
  ihave H := (denL_split m c _ _) $$ H; icases H with ⟨Hl, H⟩
  ihave H := (denL_split m c _ _) $$ H; icases H with ⟨HbX, H⟩
  ihave H := (denL_split m c _ _) $$ H; icases H with ⟨HbR, H⟩
  ihave H := (denL_split m c _ _) $$ H; icases H with ⟨HbO, H⟩
  isplitl [HS HR HB]
  · isplitl [HB]; · iapply (show denL m c [.doneB] ⊢ (atPos ER (kcell (c, .inl ())) (0 + 1) ∅ 0 : sProp 𝕄) from one_den m c .doneB); iexact HB
    isplitl [HS]; · iapply (of_den m c univ_X nodup_X Res.doneS); iexact HS
    iapply (of_den m c univ_X nodup_X Res.doneR); iexact HR
  isplitl [Hl]; · iapply (show denL m c (sets2.map fun p => Res.sem p.1 p.2) ⊢ (locals c : sProp 𝕄) from of_den m c univ_2 nodup_2 fun p => Res.sem p.1 p.2); iexact Hl
  isplitr [H]
  · isplitl [HbX]; · iexact HbX
    isplitl [HbR] <;> iassumption
  iapply (od_whole m c); iexact H

/-- The shared semaphores, each at its end, are at zero and the device's again. -/
theorem close_all (K : Dev nD × Ci → ℕ) : (iprop(records m K ∗ places (0 + 1) c) : sProp 𝕄) ⊢ |={Set.univ}=> zeros c := by
  unfold places zeros
  refine (with_persistent (R := records m K) (Ψ := fun k : Ci => iprop(|={Set.univ}=> semVal (kcell (c, k)) 0)) fun k _ => ?_).trans (bigSep_fupd _ _)
  iintro ⟨#HR, H⟩
  ihave HI := (records_get m K (c, k)) $$ HR
  unfold record
  icases HI with ⟨HI, -⟩
  iapply (Rounds.cell_close ER (Rd m) (Set.mem_univ (K (c, k))) (fun h => h) (R := 0 + 1) (duties_later m (kcell (c, k))))
  isplitl [HI] <;> iassumption

end Cert.KernelIdeal.Run

end
-- ==== Proof.Ideal.Launch.lean ====
/- The run of the whole program: from any memory with zero counters every execution ends, with the result array at
   the sum of the device's input and the rows it received, the input unchanged, and every counter at zero. -/
module

public import proofs.«01_k».proof.Proof.Ideal.Parts
public import Idealize.ShloMosaic.Lib.Pipeline.CollectiveSegs

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Before and after the body -/

/-- What the kernel starts with. -/
def Φ₀ (c : Dev nD) : sProp 𝕄 := iprop((∃ K, ctx m K) ∗ denL m c start)
/-- What the kernel ends with: its output holds the result. -/
def Φ₁ (c : Dev nD) : sProp 𝕄 := iprop(zeros c ∗ locals c ∗ bufs m c ∗ oPt c Finset.univ fullShare (res m c))

/-- The kernel as one pass with no windows. -/
def dats (_ : Fin 1) (c : Dev nD) : Dat τ (Elt F) Unit ℕ UU ℕ cfg0 c where
  A w := (show Fin 0 from w).elim0
  after w _ := (show Fin 0 from w).elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The body takes a device from the start to the end and leaves it owing nothing. -/
theorem sound_body (c : Dev nD) (t : Fin cfg0.N) (Kt : PUnit → sProp 𝕄) :
    iprop(Φ₀ m c ∗ owes' c (allOps.filterMap Op.pays))
      ⊢ iprop(((Φ₁ m c ∗ owes' c []) -∗ Kt ⟨⟩) -∗ wpc c (bodyAt0 t) Kt) := by
  rw [body_eq]
  simp only [Prog.lift, Prog.bind_op, Prog.bind_ret]
  rw [wpc, wp_deviceId]
  unfold Φ₀ Φ₁
  iintro ⟨⟨⟨%K, #HC⟩, HS⟩, HO⟩ Hk
  iapply (wp_fupd frame (wpE (defs₀ (F := F)) 𝒱₀ (c : Thread nD τ) none) Set.univ (runOps c allOps) Kt)
  iapply (allOps_sound m K c fun u => iprop(|={Set.univ}=> Kt u)) $$ [HS HO]
  · isplitr; · iexact HC
    isplitl [HS] <;> iassumption
  iintro ⟨HS, HO⟩
  ihave HS := (finish_den m c) $$ HS
  icases HS with ⟨Hp, Hl, Hb, Ho⟩
  imod (close_all m c K) $$ [Hp] with Hz
  · isplitr; · iapply (show ctx m K ⊢ (records m K : sProp 𝕄) from by unfold ctx; iintro ⟨#H, -⟩; iexact H); iexact HC
    iexact Hp
  imodintro
  iapply Hk
  isplitr [HO]
  · isplitl [Hz]; · iexact Hz
    isplitl [Hl]; · iexact Hl
    isplitl [Hb] <;> iassumption
  iexact HO

/-- What is owed before the pass. -/
theorem owes_in (c : Dev nD) (t : Fin cfg0.N) : ((dats m 0 c).owesAt () t.castSucc : sProp 𝕄) ⊢ owes' c (allOps.filterMap Op.pays) := by
  rw [fin_N0 t]
  unfold Dat.owesAt Pipeline.owesWithin owes'
  rw [show (dats m 0 c).owed t0_0.castSucc = owedL c (allOps.filterMap Op.pays) from rfl]
  iintro ⟨%W, %hW, HO⟩
  iexists W; iexact HO

/-- Nothing is owed after the pass. -/
theorem owes_out (c : Dev nD) (t : Fin cfg0.N) : (owes' c [] : sProp 𝕄) ⊢ (dats m 0 c).owesAt () t.succ := by
  rw [fin_N0 t]
  unfold Dat.owesAt Pipeline.owesWithin owes'
  rw [show (dats m 0 c).owed t0_0.succ = owedL c [] from rfl]
  iintro ⟨%W, HO⟩
  iexists W
  isplitr; · ipureintro; exact fun _ _ => Or.inl trivial
  iexact HO

/-- The body of the pass is the body of the kernel. -/
theorem body_row (t : Fin cfg0.N) : defs₀ (F := F) .tc cfg0.body (cfg0.bodyArgs t (cfg0.slots t)) = bodyAt0 t := by
  chain_rfl

/-- The pass starts with what the kernel starts with. -/
theorem Φ_start (c : Dev nD) : (dats m 0 c).Φ t0_0.castSucc = Φ₀ m c := rfl
/-- The pass ends with what the kernel ends with. -/
theorem Φ_end (c : Dev nD) : (dats m 0 c).Φ t0_0.succ = Φ₁ m c := rfl

/-- The one pass is correct. -/
theorem body_obligation (c : Dev nD) : BodyObligation (dats m 0 c) (defs₀ (F := F)) 𝒱₀ () Set.univ := fun t => by
  rw [show (Finset.univ : Finset (Fin cfg0.W)) = ∅ from rfl, bigSep_empty, bigSep_empty, body_row, fin_N0 t]
  rw [Φ_start, Φ_end]
  have hb := sound_body m c t0_0 fun _ => iprop(Φ₁ m c ∗ (dats m 0 c).owesAt () t0_0.succ ∗ emp)
  generalize bodyAt0 (F := F) t0_0 = p at hb ⊢
  show iprop(Φ₀ m c ∗ (dats m 0 c).owesAt () t0_0.castSucc ∗ emp) ⊢ wpc c p
    fun _ => iprop(Φ₁ m c ∗ (dats m 0 c).owesAt () t0_0.succ ∗ emp)
  iintro ⟨HΦ, HO, -⟩
  ihave HO := (owes_in m c t0_0) $$ HO
  iapply hb $$ [HΦ HO]
  · isplitl [HΦ] <;> iassumption
  iintro ⟨HΦ, HO⟩
  isplitl [HΦ]; · iexact HΦ
  isplitl; · iapply (owes_out m c t0_0); iexact HO
  iempintro

/-! ## The launch's side conditions -/

/-- What a device's kernel is handed; what is kept by for the end. -/
def X (c : Dev nD) : sProp 𝕄 := iprop((∃ K, ctx m K) ∗ arrays m c ∗ places 0 c ∗ payToks c ∗ locals c ∗ creds c)
/-- What the kernel hands back. -/
def Y (c : Dev nD) : sProp 𝕄 := iprop(unscopedSems0 c ∗ oPt c Finset.univ fullShare (res m c))
/-- The share of the input kept by for the end. -/
def Z (c : Dev nD) : sProp 𝕄 := xPt c Finset.univ (part 0) (xs m c)

/-- A device's memory, levels, credits and allocation are what its kernel is handed and what is kept by. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ Z m c) := by
  rw [Pipeline.unscopedRestP_none, unscopedRest0_eq]
  unfold G' X Z arrays ctx
  iintro ⟨⟨Hx, Ho, Hr⟩, Hlev, Hcr, -, ⟨%K, HR⟩, Hp, Ht, Hl⟩
  ihave Hc := (creds_intro (F := F) c) $$ Hcr
  ihave Hx := (Ring.pointsTo_thirds fullShare (m ((c : Thread nD τ).loc main_arg0))).1 $$ Hx
  icases Hx with ⟨Hx0, Hx1, Hx2⟩
  imodintro
  isplitr [Hx0]
  · isplitl [HR Hlev]
    · iexists K; isplitl [HR] <;> iassumption
    isplitl [Hx1 Hx2 Ho Hr]
    · isplitl [Hx1]; · unfold xPt xs; iexact Hx1
      isplitl [Hx2]; · unfold xPt xs; iexact Hx2
      isplitl [Ho]
      · iexists (m ((c : Thread nD τ).loc main_v1_0)); unfold oPt; iexact Ho
      · iexists (m ((c : Thread nD τ).loc main_v1_1)); unfold rPt; iexact Hr
    isplitl [Hp]; · iexact Hp
    isplitl [Ht]; · iexact Ht
    isplitl [Hl] <;> iassumption
  · unfold xPt xs; iexact Hx0

/-- What a kernel is handed, with its buffers, is its start. -/
theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ X
  iintro ⟨⟨HC, Ha, Hp, Ht, Hl, Hc⟩, -, Hb⟩
  isplitl [HC]; · iexact HC
  iapply (start_den m c)
  isplitl [Ha]; · iexact Ha
  isplitl [Hp]; · iexact Hp
  isplitl [Ht]; · iexact Ht
  isplitl [Hl]; · iexact Hl
  isplitl [Hc]; · iexact Hc
  iapply (bufs_in m c); iexact Hb

/-- The end of a kernel gives back its semaphores and buffers. -/
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl]
  unfold Φ₁ Y
  iintro ⟨Hz, Hl, Hb, Ho⟩
  ihave Hs := (sems_split (F := F) c).2 $$ [Hz Hl]
  · isplitl [Hz] <;> iassumption
  icases Hs with ⟨Hown, Hu⟩
  isplitl [Hu Ho]
  · isplitl [Hu] <;> iassumption
  isplitl [Hown]; · iexact Hown
  iapply (bufs_out m c); iexact Hb

/-- There are no windows to wait for. -/
theorem waits (c : Dev nD) : (levAts L lv : sProp 𝕄) ⊢ Pipeline.cellsWaits cfgs (dats m) () 0 c :=
  Pipeline.cellsWaits_intro cfgs (dats m) () 0 c fun w s t => (show Fin 0 from w).elim0

/-- What is read at the end. -/
def Read (c : Dev nD) (s : MemSt nD τ sig (Elt F)) : Prop :=
  s.mem ((c : Thread nD τ).loc main_v1_0) = res m c ∧ s.mem ((c : Thread nD τ).loc main_arg0) = m ((c : Thread nD τ).loc main_arg0)

/-- The share kept by shows the input unchanged. -/
theorem read_x (c : Dev nD) (s' : Phys nD τ sig (Elt F)) :
    iprop(Z m c ∗ SI s') ⊢ iprop(⌜s'.mem.mem ((c : Thread nD τ).loc main_arg0) = m ((c : Thread nD τ).loc main_arg0)⌝ ∗ (SI s' : sProp 𝕄)) := by
  unfold Z xPt
  have h := pointsTo_read_all (Ix := Unit) (Name := ℕ) (U := UU) (Lvl := ℕ) ({()} : Finset Unit) (fun _ => (c : Thread nD τ).loc main_arg0) (fun _ => m ((c : Thread nD τ).loc main_arg0)) s' (part 0)
  rw [bigSep_singleton] at h
  iintro H
  ihave H := h $$ [H]
  · iexact H
  icases H with ⟨%h, HSI⟩
  isplitr; · ipureintro; exact h () (Finset.mem_singleton_self _)
  iexact HSI

/-- The output read at the end is the result. -/
theorem read_o (c : Dev nD) (s' : Phys nD τ sig (Elt F)) :
    iprop(oPt c Finset.univ fullShare (res m c) ∗ SI s') ⊢ iprop(⌜s'.mem.mem ((c : Thread nD τ).loc main_v1_0) = res m c⌝ ∗ (SI s' : sProp 𝕄)) := by
  unfold oPt
  have h := pointsTo_read_all (Ix := Unit) (Name := ℕ) (U := UU) (Lvl := ℕ) ({()} : Finset Unit) (fun _ => (c : Thread nD τ).loc main_v1_0) (fun _ => res m c) s' fullShare
  rw [bigSep_singleton] at h
  iintro H
  ihave H := h $$ [H]
  · iexact H
  icases H with ⟨%h, HSI⟩
  isplitr; · ipureintro; exact h () (Finset.mem_singleton_self _)
  iexact HSI

/-! ## The run -/

/-- A device runs the kernel and nothing else. -/
theorem main_eq (c : Dev nD) : main (F := F) c = .op (.customCall (Pipeline.entry (0 : Fin 1)) ()) fun _ => .ret ⟨⟩ := by
  chain_rfl

/-- Every run ends with the result in every output, every input unchanged and every semaphore at zero. -/
theorem run_main : θ_run (defs (F := F)) (onTc (τ := τ) (main (F := F))) ⟨m, fun _ => 0, ρ⟩
    (fun r => (∀ c, Read m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := main_eq)
    (hbody := fun c => (body_obligation m c).loose) (hne := fun w => (show Fin 0 from w).elim0) (harr := arr_whole0) (hstage := stage_whole0)
    (hshare := fun _ w => (show Fin 0 from w).elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_cells m) $$ HX with HG
      imodintro
      isplitl [HP] <;> iassumption)
    (hglob := glob m)
    (hA := fun _ w => (show Fin 0 from w).elim0) (hpf := fun _ k => k.elim0)
    (X := X m) (Y := Y m) (Z := Z m)
    (hX := start_intro m ρ) (hin := phi0_intro m) (hout := phi1_exit m)
    (QY := fun c s => Read m c s ∧ ∀ sm : SemLoc sig, sm.isScoped .tc = false → s.sem ((c.tc : Thread nD τ), sm) = 0)
    (hY := fun c s' => by
      unfold Y
      iintro ⟨⟨Hu, Ho⟩, Hz, HSI⟩
      ihave H := (read_x m c s') $$ [Hz HSI]
      · isplitl [Hz] <;> iassumption
      icases H with ⟨%hx, HSI⟩
      ihave H := (read_o m c s') $$ [Ho HSI]
      · isplitl [Ho] <;> iassumption
      icases H with ⟨%ho, HSI⟩
      imod (Pipeline.unscopedSems0_read (X := unscopedSems0 c) (c := c) fupd_intro s') $$ [Hu HSI] with ⟨%hs, HSI⟩
      · isplitl [Hu] <;> iassumption
      imodintro
      isplitr; · ipureintro; exact ⟨⟨ho, hx⟩, hs⟩
      iexact HSI)
    (hQ := fun _ h hs => ⟨fun c => (h c).2.2.1, sem_eq_zero hs fun c => (h c).2.2.2⟩)

end Cert.KernelIdeal.Run

end
-- ==== Proof.Ideal.Value.lean ====
/- What the run computes. The whole array is two halves, one on top of the other; a device holds the half its place
   along the second mesh axis names, and every row it receives comes from a device that holds the other half. So each
   device ends with the sum of the two halves, which is what the reference writes. -/
module

public import proofs.«01_k».proof.Proof.Ideal.Launch
public import proofs.«01_k».proof.Proof.Gen.ReferenceIdeal.Run
public import Idealize.ShloMosaic.Lib.Layout
public import Idealize.ShloMosaic.Lib.Pipeline.Value
public import Idealize.ShloMosaic.Lib.Pointwise.Reduce
public import Idealize.ShloMosaic.PureOps.Ideal

@[expose] public section

noncomputable section

namespace Cert.KernelIdeal.Run

open Idealize.ShloMosaic Idealize.ShloMosaic.TcCoe

/-- Position `i` of half `y`, in the whole array. -/
def inHalf (y : Fin 2) (i : Pos) : Cert.ReferenceIdeal.S65536x1024.Idx :=
  ix2 ⟨y.val * 32768 + (i 0).val, by have h := row_lt i; unfold row at h; omega⟩ (i 1)

/-- Which half device `c` holds. -/
def side (c : Dev nD) : Fin 2 := ⟨c.val / 2 % 2, Nat.mod_lt _ (by decide)⟩

/-- A device's half of the input. -/
theorem side_block (c : Dev nD) : Layout.meshLin [2, 2, 2] c.val [1] = (side c).val := by
  revert c; decide +kernel

/-- A device's block, read at a position, is its half read there. -/
theorem block_at {α : Type} (c : Dev nD) (v : Cert.ReferenceIdeal.S65536x1024.Idx → α) (i : Pos) :
    (Layout.blockN ⟨2, ![32768, 1024]⟩ ⟨2, ![65536, 1024]⟩ (Layout.meshBlock [2, 2, 2] ![[1], []] c) v) i = v (inHalf (side c) i) := by
  rw [Layout.blockN_apply]
  refine congrArg v (funext fun a => Fin.ext ?_)
  rw [Layout.TilesN.idx_val]
  fin_cases a
  · show Layout.meshLin [2, 2, 2] c.val [1] * 32768 + (i 0).val = (side c).val * 32768 + (i 0).val
    rw [side_block]
  · show 0 * 1024 + (i 1).val = (i 1).val
    omega

/-- The sum of the two halves. -/
def total (v : Cert.ReferenceIdeal.S65536x1024.Idx → EReal) (i : Pos) : EReal := v (inHalf 0 i) + v (inHalf 1 i)

/-- A half and the other one make the total, whichever comes first. -/
theorem total_of (v : Cert.ReferenceIdeal.S65536x1024.Idx → EReal) (i : Pos) (a b : Fin 2) (h : b.val = 1 - a.val) :
    v (inHalf a i) + v (inHalf b i) = total v i := by
  unfold total
  have ha := a.isLt
  obtain h0 | h1 : a.val = 0 ∨ a.val = 1 := by omega
  · rw [show a = 0 from Fin.ext h0, show b = 1 from Fin.ext (by rw [h, h0]; rfl)]
  · rw [show a = 1 from Fin.ext h1, show b = 0 from Fin.ext (by rw [h, h1]; rfl), add_comm]

variable (m : (ℓ : Loc nD τ sig) → Buf (Elt Ideal) ℓ)

/-- Every device ends with the total. -/
theorem res_total (v : Cert.ReferenceIdeal.S65536x1024.Idx → EReal)
    (hm : ∀ c : Dev nD, m ((c.tc : Thread nD τ).loc main_arg0)
      = Layout.blockN ⟨2, ![32768, 1024]⟩ ⟨2, ![65536, 1024]⟩ (Layout.meshBlock [2, 2, 2] ![[1], []] c) v) (c : Dev nD) :
    res m c = total v := by
  have hx (d : Dev nD) (i : Pos) : xs m d i = v (inHalf (side d) i) := (congrFun (hm d) i).trans (block_at d v i)
  funext i
  have hj : row i / 512 < 64 := by have h := row_lt i; omega
  show (xs m c i : EReal) + (xs m (origin c (row i / 512)) i : EReal) = _
  rw [hx, hx]
  exact total_of v i _ _ (origin_y c ⟨row i / 512, hj⟩)

/-- The reference's sum over its leading axis, read at a position. -/
theorem reduce_total (v : Cert.ReferenceIdeal.S65536x1024.Idx → EReal) (h : Cert.ReferenceIdeal.S65536x1024.ShapeCasts Cert.ReferenceIdeal.S2x32768x1024)
    (hr : Cert.ReferenceIdeal.S2x32768x1024.ReducesTo [0] Cert.ReferenceIdeal.S32768x1024) (hu : 0 < Cert.ReferenceIdeal.S_.numel) :
    Host.reduceAdd (F := Ideal) (φ := .f32) (shapeCast Cert.ReferenceIdeal.S2x32768x1024 v h) (constant (F := Ideal) Cert.ReferenceIdeal.S_ .f32 0x00000000#32) hr hu = total v := by
  funext i
  rw [Host.reduceAdd_apply, Ideal.hostReduceAdd_def, Ideal.hostReduceAdd_r3_a0, Fin.sum_univ_two]
  have hz : (constant (F := Ideal) Cert.ReferenceIdeal.S_ .f32 0x00000000#32 (Shape.Idx.first hu) : EReal) = 0 := by
    simp [constant]
  rw [hz, zero_add]
  have hat (y : Fin 2) (a : Fin 32768) (b : Fin 1024) (ha : a.val = (i 0).val) (hb : b.val = (i 1).val) :
      shapeCast Cert.ReferenceIdeal.S2x32768x1024 v h (ix3 y a b) = v (inHalf y i) := by
    refine shapeCast_apply v h _ _ ?_
    rw [Shape.rowMajor_val_two, Shape.rowMajor_val_three]
    show (y.val * 32768 + (i 0).val) * 1024 + (i 1).val = _
    show _ = (y.val * 32768 + a.val) * 1024 + b.val
    rw [ha, hb]
  exact congrArg₂ (fun p q : EReal => p + q) (hat 0 _ _ rfl rfl) (hat 1 _ _ rfl rfl)

end Cert.KernelIdeal.Run

end
-- ==== Proof.lean ====
/- The proof of the certificate's claims, put together: the two readings of the kernel run and leave their argument and
   every counter as they were, the reference does too, and in exact arithmetic every device ends with the reference's
   result. The work is in Proof/Ideal/: the program's operations (Ops), the rows and devices (Geom), what each
   operation hands over (Sched, Res), one operation after another (Steps, Local, Exec), the launch (Deal, Parts, Launch)
   and the values (Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ideal.Value
public import proofs.«01_k».proof.Proof.Gen.ReferenceIdeal.Run
public import Idealize.ShloMosaic.Adequacy
public import Idealize.ShloMosaic.Init
public import Idealize.ShloMosaic.Lib.Quiescent
public import Idealize.ShloMosaic.Lib.Pipeline.Regions

@[expose] public section

noncomputable section

namespace Cert.Proof

open Idealize.ShloMosaic Idealize.ShloMosaic.TcCoe Idealize.SL.Sem

/-- The kernel's frame at any float values: it runs, its argument ends unchanged and every counter ends at zero. -/
def FrameOf (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem frame_of (F : FTy → Type) [FloatOps F] : FrameOf F := fun m g _ =>
  (θ_run _ _ _).mono (fun _ h => ⟨fun c => (h.1 c).2, h.2⟩) (Cert.KernelIdeal.Run.run_main m g)

/-- The two printed texts are one program. -/
theorem same_program : Cert.quiescent_Kernel (hKernel := Cert.Kernel.Gen.facts) = FrameOf Bits := by chain_rfl

theorem frame_kernel : Cert.quiescent_Kernel (hKernel := Cert.Kernel.Gen.facts) :=
  same_program.mpr (frame_of Bits)

theorem frame_ideal : Cert.quiescent_KernelIdeal (hKernelIdeal := Cert.KernelIdeal.Gen.facts) := frame_of Ideal

theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

theorem algebraic : Cert.algebraic_KernelIdeal_ReferenceIdeal (hKernelIdeal := Cert.KernelIdeal.Gen.facts)
    (hReferenceIdeal := Cert.ReferenceIdeal.Gen.facts) := fun m g m' g' _ hm =>
  ⟨Cert.KernelIdeal.Run.total (m' ((0 : Dev Cert.ReferenceIdeal.nD).tc.loc Cert.ReferenceIdeal.main_arg0)),
    (θ_run _ _ _).mono (fun _ h c => ⟨(h.1 c).1.trans (Cert.KernelIdeal.Run.res_total m _ hm c), (h.1 c).2⟩)
      (Cert.KernelIdeal.Run.run_main m g),
    (θ_run _ _ _).mono (fun _ h => ⟨(h 0).1.trans (Cert.KernelIdeal.Run.reduce_total _ _ _ _), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
